-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S256x512 : Shape := ⟨2, ![256, 512]⟩
abbrev S12 : Shape := ⟨1, ![12]⟩
abbrev S_ : Shape := ⟨0, ![]⟩
abbrev S1 : Shape := ⟨1, ![1]⟩
abbrev S128x512 : Shape := ⟨2, ![128, 512]⟩

abbrev nBuf : Space → Nat
  | .hbm => 2
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_8 : BitVec 32 := 1#32
  let v25 : BitVec 32 := Scalar.muli v23 c1_i32_8
  let v26 : BitVec 32 := Scalar.addi c0_i32_9 v25
  v26.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_11 : BitVec 32 := 1#32
  let v27 : BitVec 32 := Scalar.muli v22 c1_i32_11
  let v28 : BitVec 32 := Scalar.addi c0_i32_12 v27
  v28.toNat
def k0_off1 (d0 : Dev nD) (c0_i32_20 : BitVec 32) : Fin 2 → Nat :=
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v32 : BitVec 32 := Scalar.subi c1_i32_15 v19
  let c256_i32_16 : BitVec 32 := 256#32
  let v33 : BitVec 32 := Scalar.muli v32 c256_i32_16
  let v37 : BitVec 32 := Scalar.addi v33 c0_i32_20
  let c0_i32_29 : BitVec 32 := 0#32
  ![v37.toNat, 0]
def k0_dev3 (d0 : Dev nD) : Nat :=
  let c0_i32_26 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_25 : BitVec 32 := 1#32
  let v41 : BitVec 32 := Scalar.muli v23 c1_i32_25
  let v42 : BitVec 32 := Scalar.addi c0_i32_26 v41
  v42.toNat
def k0_off2 (d0 : Dev nD) (c0_i32_21 : BitVec 32) : Fin 2 → Nat :=
  let c512_i32_19 : BitVec 32 := 512#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_5 : BitVec 32 := 1#32
  let v20 : BitVec 32 := Scalar.andi v2 c1_i32_5
  let v21 : BitVec 32 := Scalar.xori v19 v20
  let v34 : BitVec 32 := Scalar.subi c1_i32_17 v21
  let c256_i32_18 : BitVec 32 := 256#32
  let v35 : BitVec 32 := Scalar.muli v34 c256_i32_18
  let v36 : BitVec 32 := Scalar.addi c512_i32_19 v35
  let v39 : BitVec 32 := Scalar.addi v36 c0_i32_21
  let c0_i32_36 : BitVec 32 := 0#32
  ![v39.toNat, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_32 : BitVec 32 := 1#32
  let v49 : BitVec 32 := Scalar.muli v22 c1_i32_32
  let v50 : BitVec 32 := Scalar.addi c0_i32_33 v49
  v50.toNat
def k0_dev5 (d0 : Dev nD) : Nat :=
  let c0_i32_40 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_39 : BitVec 32 := 1#32
  let v57 : BitVec 32 := Scalar.muli v23 c1_i32_39
  let v58 : BitVec 32 := Scalar.addi c0_i32_40 v57
  v58.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_46 : BitVec 32 := 1#32
  let v65 : BitVec 32 := Scalar.muli v22 c1_i32_46
  let v66 : BitVec 32 := Scalar.addi c0_i32_47 v65
  v66.toNat
def k0_off3 (d0 : Dev nD) (c0_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32 : BitVec 32 := 256#32
  let v29 : BitVec 32 := Scalar.muli v19 c256_i32
  let v91 : BitVec 32 := Scalar.addi v29 c0_i32_72
  let v92 : Index := Scalar.indexCast v91
  let c0 : Index := 0#32
  ![v92.toNat, 0]
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_79 : BitVec 32 := 1#32
  let v100 : BitVec 32 := Scalar.muli v22 c1_i32_79
  let v101 : BitVec 32 := Scalar.addi c0_i32_80 v100
  v101.toNat
def k0_off4 (d0 : Dev nD) (c0_i32_98 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_5 : BitVec 32 := 1#32
  let v20 : BitVec 32 := Scalar.andi v2 c1_i32_5
  let v21 : BitVec 32 := Scalar.xori v19 v20
  let c256_i32_14 : BitVec 32 := 256#32
  let v30 : BitVec 32 := Scalar.muli v21 c256_i32_14
  let v31 : BitVec 32 := Scalar.addi c512_i32 v30
  let v118 : BitVec 32 := Scalar.addi v31 c0_i32_98
  let v119 : Index := Scalar.indexCast v118
  let c0_99 : Index := 0#32
  ![v119.toNat, 0]
def k0_dev8 (d0 : Dev nD) : Nat :=
  let c0_i32_106 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_105 : BitVec 32 := 1#32
  let v127 : BitVec 32 := Scalar.muli v23 c1_i32_105
  let v128 : BitVec 32 := Scalar.addi c0_i32_106 v127
  v128.toNat
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_130 : BitVec 32 := 1#32
  let v154 : BitVec 32 := Scalar.muli v22 c1_i32_130
  let v155 : BitVec 32 := Scalar.addi c0_i32_131 v154
  v155.toNat
def k0_dev10 (d0 : Dev nD) : Nat :=
  let c0_i32_157 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_156 : BitVec 32 := 1#32
  let v181 : BitVec 32 := Scalar.muli v23 c1_i32_156
  let v182 : BitVec 32 := Scalar.addi c0_i32_157 v181
  v182.toNat
def k0_off5 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32 : BitVec 32 := 256#32
  let v29 : BitVec 32 := Scalar.muli v19 c256_i32
  let v74 : BitVec 32 := Scalar.addi v29 c0_i32_52
  let c0_i32_186 : BitVec 32 := 0#32
  ![v74.toNat, 0]
def k0_dev11 (d0 : Dev nD) : Nat :=
  let c0_i32_185 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_184 : BitVec 32 := 1#32
  let v205 : BitVec 32 := Scalar.muli v23 c1_i32_184
  let v206 : BitVec 32 := Scalar.addi c0_i32_185 v205
  v206.toNat
def k0_off6 (d0 : Dev nD) (c0_i32_56 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1_i32_5 : BitVec 32 := 1#32
  let v20 : BitVec 32 := Scalar.andi v2 c1_i32_5
  let v21 : BitVec 32 := Scalar.xori v19 v20
  let c256_i32_14 : BitVec 32 := 256#32
  let v30 : BitVec 32 := Scalar.muli v21 c256_i32_14
  let v31 : BitVec 32 := Scalar.addi c512_i32 v30
  let v78 : BitVec 32 := Scalar.addi v31 c0_i32_56
  let c0_i32_212 : BitVec 32 := 0#32
  ![v78.toNat, 0]
def k0_dev12 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_210 : BitVec 32 := 1#32
  let v229 : BitVec 32 := Scalar.muli v22 c1_i32_210
  let v230 : BitVec 32 := Scalar.addi c0_i32_211 v229
  v230.toNat
def k0_dev13 (d0 : Dev nD) : Nat :=
  let c0_i32_237 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.subi c3_i32 v2
  let c1_i32_236 : BitVec 32 := 1#32
  let v253 : BitVec 32 := Scalar.muli v23 c1_i32_236
  let v254 : BitVec 32 := Scalar.addi c0_i32_237 v253
  v254.toNat
def k0_dev14 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v22 : BitVec 32 := Scalar.xori v2 c1_i32_6
  let c1_i32_262 : BitVec 32 := 1#32
  let v277 : BitVec 32 := Scalar.muli v22 c1_i32_262
  let v278 : BitVec 32 := Scalar.addi c0_i32_263 v277
  v278.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
  The mesh, the blocks and the values of the all-reduce kernel.

  Four devices stand in a square; device `c`'s partners are `nx c` and `ny c`. The 1024 rows of an array are eight blocks of 128
  rows: blocks 0..3 are reduced first along `nx` and then along `ny`, blocks 4..7 first along `ny` and then along `nx`. A device
  keeps two blocks of each half and gives the other two away. Twelve transfers, numbered as the kernel numbers its semaphores,
  move everything: this file says of each which device it goes to, from which memref to which, and what it carries.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The partner across the first axis of the square. -/
def nx (c : Dev nD) : Dev nD := ⟨3 - c.val, by have := c.isLt; show _ < 4; omega⟩

/-- The partner across the second axis of the square: 0 with 1, 2 with 3. -/
def ny (c : Dev nD) : Dev nD := ⟨c.val + 1 - 2 * (c.val % 2), by have : c.val < 4 := c.isLt; show _ < 4; omega⟩

theorem nx_nx (c : Dev nD) : nx (nx c) = c := by revert c; decide
theorem ny_ny (c : Dev nD) : ny (ny c) = c := by revert c; decide
theorem ny_nx (c : Dev nD) : ny (nx c) = nx (ny c) := by revert c; decide

theorem dev1_eq (c : Dev nD) : (⟨k0_dev1 c, k0_dev1_lt c⟩ : Dev nD) = nx c := by revert c; decide +kernel
theorem dev2_eq (c : Dev nD) : (⟨k0_dev2 c, k0_dev2_lt c⟩ : Dev nD) = ny c := by revert c; decide +kernel
theorem dev3_eq (c : Dev nD) : (⟨k0_dev3 c, k0_dev3_lt c⟩ : Dev nD) = nx c := by revert c; decide +kernel
theorem dev4_eq (c : Dev nD) : (⟨k0_dev4 c, k0_dev4_lt c⟩ : Dev nD) = ny c := by revert c; decide +kernel
theorem dev5_eq (c : Dev nD) : (⟨k0_dev5 c, k0_dev5_lt c⟩ : Dev nD) = nx c := by revert c; decide +kernel
theorem dev6_eq (c : Dev nD) : (⟨k0_dev6 c, k0_dev6_lt c⟩ : Dev nD) = ny c := by revert c; decide +kernel
theorem dev7_eq (c : Dev nD) : (⟨k0_dev7 c, k0_dev7_lt c⟩ : Dev nD) = ny c := by revert c; decide +kernel
theorem dev8_eq (c : Dev nD) : (⟨k0_dev8 c, k0_dev8_lt c⟩ : Dev nD) = nx c := by revert c; decide +kernel
theorem dev9_eq (c : Dev nD) : (⟨k0_dev9 c, k0_dev9_lt c⟩ : Dev nD) = ny c := by revert c; decide +kernel
theorem dev10_eq (c : Dev nD) : (⟨k0_dev10 c, k0_dev10_lt c⟩ : Dev nD) = nx c := by revert c; decide +kernel
theorem dev11_eq (c : Dev nD) : (⟨k0_dev11 c, k0_dev11_lt c⟩ : Dev nD) = nx c := by revert c; decide +kernel
theorem dev12_eq (c : Dev nD) : (⟨k0_dev12 c, k0_dev12_lt c⟩ : Dev nD) = ny c := by revert c; decide +kernel
theorem dev13_eq (c : Dev nD) : (⟨k0_dev13 c, k0_dev13_lt c⟩ : Dev nD) = nx c := by revert c; decide +kernel
theorem dev14_eq (c : Dev nD) : (⟨k0_dev14 c, k0_dev14_lt c⟩ : Dev nD) = ny c := by revert c; decide +kernel

/-! ## Blocks of rows -/

/-- The two blocks of rows 0..511 that device `c` keeps; `nx c` keeps the other two. -/
def aKeep (c : Dev nD) (k : Fin 2) : Fin 8 := ⟨2 * (c.val / 2) + k.val, by have : c.val < 4 := c.isLt; have := k.isLt; omega⟩

/-- The two blocks of rows 512..1023 that device `c` keeps; `ny c` keeps the other two. -/
def bKeep (c : Dev nD) (k : Fin 2) : Fin 8 := ⟨4 + 2 * ((c.val / 2 + c.val) % 2) + k.val, by have := k.isLt; omega⟩

/-- The rows of block `b`. -/
abbrev rows (b : Fin 8) : Rect S1024x512 :=
  Rect.unit (s := S1024x512) ![128 * b.val, 0] S128x512.size (by revert b; decide)

/-- The rows of chunk `k` of a 256-row scratch buffer. -/
abbrev chunk (k : Fin 2) : Rect S256x512 :=
  Rect.unit (s := S256x512) ![128 * k.val, 0] S128x512.size (by revert k; decide)

/-- The chunk number as the kernel writes it: its first row, a 32-bit word. -/
abbrev rowWord (k : Fin 2) : BitVec 32 := BitVec.ofNat 32 (128 * k.val)

theorem off1_eq (c : Dev nD) (k : Fin 2) : k0_off1 c (rowWord k) = ![128 * (aKeep (nx c) k).val, 0] := by
  revert c k; decide +kernel
theorem off2_eq (c : Dev nD) (k : Fin 2) : k0_off2 c (rowWord k) = ![128 * (bKeep (ny c) k).val, 0] := by
  revert c k; decide +kernel
theorem off3_eq (c : Dev nD) (k : Fin 2) : k0_off3 c (rowWord k) = ![128 * (aKeep c k).val, 0] := by
  revert c k; decide +kernel
theorem off4_eq (c : Dev nD) (k : Fin 2) : k0_off4 c (rowWord k) = ![128 * (bKeep c k).val, 0] := by
  revert c k; decide +kernel
theorem off5_eq (c : Dev nD) (k : Fin 2) : k0_off5 c (rowWord k) = ![128 * (aKeep c k).val, 0] := by
  revert c k; decide +kernel
theorem off6_eq (c : Dev nD) (k : Fin 2) : k0_off6 c (rowWord k) = ![128 * (bKeep c k).val, 0] := by
  revert c k; decide +kernel

/-- A rectangle of one block's size at a block's offset is that block's rows. -/
theorem rows_of_off {off : Fin 2 → Nat} {b : Fin 8} (h : off = ![128 * b.val, 0])
    (hi : ∀ a, off a + S128x512.size a ≤ S1024x512.size a) : Rect.unit (s := S1024x512) off S128x512.size hi = rows b := by
  subst h; rfl

/-- Different blocks share no row. -/
theorem rows_disjoint (b b' : Fin 8) (h : b ≠ b') : Disjoint (rows b).set (rows b').set := by
  rw [Finset.disjoint_left]
  intro x hx hx'
  simp only [rows, Rect.mem_set_unit] at hx hx'
  have h0 := hx 0; have h0' := hx' 0
  simp at h0 h0'
  have h1 : S128x512.size 0 = 128 := rfl
  exact h (Fin.ext (by omega))

/-- Different chunks share no row. -/
theorem chunk_disjoint (k k' : Fin 2) (h : k ≠ k') : Disjoint (chunk k).set (chunk k').set := by
  rw [Finset.disjoint_left]
  intro x hx hx'
  simp only [chunk, Rect.mem_set_unit] at hx hx'
  have h0 := hx 0; have h0' := hx' 0
  simp at h0 h0'
  have h1 : S128x512.size 0 = 128 := rfl
  exact h (Fin.ext (by omega))

/-- Every row lies in a block. -/
theorem rows_cover : (Finset.univ : Finset (Fin 8)).biUnion (fun b => (rows b).set) = Finset.univ := by
  refine Finset.eq_univ_of_forall fun x => Finset.mem_biUnion.mpr ?_
  have h0 : (x 0).val < 1024 := (x 0).isLt
  have h1 : (x 1).val < 512 := (x 1).isLt
  refine ⟨⟨(x 0).val / 128, by omega⟩, Finset.mem_univ _, ?_⟩
  simp only [rows, Rect.mem_set_unit]
  have e0 : S128x512.size 0 = 128 := rfl
  have e1 : S128x512.size 1 = 512 := rfl
  intro a; fin_cases a <;> simp <;> omega

/-- Every row of a scratch buffer lies in a chunk. -/
theorem chunk_cover : (Finset.univ : Finset (Fin 2)).biUnion (fun k => (chunk k).set) = Finset.univ := by
  refine Finset.eq_univ_of_forall fun x => Finset.mem_biUnion.mpr ?_
  have h0 : (x 0).val < 256 := (x 0).isLt
  have h1 : (x 1).val < 512 := (x 1).isLt
  refine ⟨⟨(x 0).val / 128, by omega⟩, Finset.mem_univ _, ?_⟩
  simp only [chunk, Rect.mem_set_unit]
  have e0 : S128x512.size 0 = 128 := rfl
  have e1 : S128x512.size 1 = 512 := rfl
  intro a; fin_cases a <;> simp <;> omega

/-! ## Memrefs -/

/-- A memref of 128 rows in the chip's vector memory: what one transfer reads or writes. -/
abbrev Blk := Memref sig .tc .vmem S128x512 .f32

/-- Block `b` of the operand's copy. -/
abbrev xB (b : Fin 8) : Blk := (Memref.whole cc0_stg0_0).slice (rows b) (fun _ => rfl)
/-- Block `b` of the result's copy. -/
abbrev oB (b : Fin 8) : Blk := (Memref.whole cc0_stg1_0).slice (rows b) (fun _ => rfl)
/-- Chunk `k` of the first half's partial sums. -/
abbrev sA (k : Fin 2) : Blk := (Memref.whole cc0_scratch0).slice (chunk k) (fun _ => rfl)
/-- Chunk `k` of the second half's partial sums. -/
abbrev sB (k : Fin 2) : Blk := (Memref.whole cc0_scratch1).slice (chunk k) (fun _ => rfl)
/-- Where the first exchange of the first half lands. -/
abbrev rA1 (k : Fin 2) : Blk := (Memref.whole cc0_scratch2).slice (chunk k) (fun _ => rfl)
/-- Where the first exchange of the second half lands. -/
abbrev rB1 (k : Fin 2) : Blk := (Memref.whole cc0_scratch3).slice (chunk k) (fun _ => rfl)
/-- Where the second exchange of the first half lands. -/
abbrev rA2 (k : Fin 2) : Blk := (Memref.whole cc0_scratch4).slice (chunk k) (fun _ => rfl)
/-- Where the second exchange of the second half lands. -/
abbrev rB2 (k : Fin 2) : Blk := (Memref.whole cc0_scratch5).slice (chunk k) (fun _ => rfl)

/-! ## The twelve transfers -/

/-- The device that transfer `j` of device `c` goes to. Its own transfer `j` comes from the same device. -/
def tgt (j : Fin 12) (c : Dev nD) : Dev nD :=
  match j with
  | 0 | 1 | 6 | 7 | 8 | 9 => nx c
  | 2 | 3 | 4 | 5 | 10 | 11 => ny c

/-- What transfer `j` of device `c` reads. -/
def srcM (j : Fin 12) (c : Dev nD) : Blk :=
  match j with
  | 0 => xB (aKeep (nx c) 0) | 1 => xB (aKeep (nx c) 1)
  | 2 => xB (bKeep (ny c) 0) | 3 => xB (bKeep (ny c) 1)
  | 4 => sA 0 | 5 => sA 1
  | 6 => sB 0 | 7 => sB 1
  | 8 => oB (aKeep c 0) | 9 => oB (aKeep c 1)
  | 10 => oB (bKeep c 0) | 11 => oB (bKeep c 1)

/-- Where transfer `j` lands on the device `d` it goes to. -/
def landM (j : Fin 12) (d : Dev nD) : Blk :=
  match j with
  | 0 => rA1 0 | 1 => rA1 1
  | 2 => rB1 0 | 3 => rB1 1
  | 4 => rA2 0 | 5 => rA2 1
  | 6 => rB2 0 | 7 => rB2 1
  | 8 => oB (aKeep (nx d) 0) | 9 => oB (aKeep (nx d) 1)
  | 10 => oB (bKeep (ny d) 0) | 11 => oB (bKeep (ny d) 1)

theorem tgt_tgt (j : Fin 12) (c : Dev nD) : tgt j (tgt j c) = c := by revert j c; decide

/-! ## Values

What the buffers hold, over each device's own array `X c`. -/

variable {F : FTy → Type} [FloatOps F]

/-- 128 rows of numbers. -/
abbrev Val128 (F : FTy → Type) [FloatOps F] := Vec F S128x512 .f32

variable (X : Dev nD → Vec F S1024x512 .f32)

/-- Block `b` of device `c`'s array. -/
def xv (c : Dev nD) (b : Fin 8) : Val128 F := fun i => X c ((rows b).emb i)

/-- First half, after the first exchange: device `c`'s block and `nx c`'s. -/
def accA (c : Dev nD) (k : Fin 2) : Val128 F := k0_pay1 (xv X c (aKeep c k)) (xv X (nx c) (aKeep c k))
/-- Second half, after the first exchange: device `c`'s block and `ny c`'s. -/
def accB (c : Dev nD) (k : Fin 2) : Val128 F := k0_pay2 (xv X c (bKeep c k)) (xv X (ny c) (bKeep c k))
/-- First half, after the second exchange: the sum over all four devices. -/
def outA (c : Dev nD) (k : Fin 2) : Val128 F := k0_pay5 (accA X c k) (accA X (ny c) k)
/-- Second half, after the second exchange: the sum over all four devices. -/
def outB (c : Dev nD) (k : Fin 2) : Val128 F := k0_pay6 (accB X c k) (accB X (nx c) k)

/-- What transfer `j` of device `c` carries. -/
def sval (j : Fin 12) (c : Dev nD) : Val128 F :=
  match j with
  | 0 => xv X c (aKeep (nx c) 0) | 1 => xv X c (aKeep (nx c) 1)
  | 2 => xv X c (bKeep (ny c) 0) | 3 => xv X c (bKeep (ny c) 1)
  | 4 => accA X c 0 | 5 => accA X c 1
  | 6 => accB X c 0 | 7 => accB X c 1
  | 8 => outA X c 0 | 9 => outA X c 1
  | 10 => outB X c 0 | 11 => outB X c 1

/-- What transfer `j` brings to device `d`. -/
def lval (j : Fin 12) (d : Dev nD) : Val128 F := sval X j (tgt j d)

theorem lval_tgt (j : Fin 12) (c : Dev nD) : lval X j (tgt j c) = sval X j c := by unfold lval; rw [tgt_tgt]

/-- What block `b` of device `c`'s result holds in the end: its own sum where it keeps the block, else its partner's. -/
def oval (c : Dev nD) (b : Fin 8) : Val128 F :=
  if b = aKeep c 0 then outA X c 0 else if b = aKeep c 1 then outA X c 1
  else if b = bKeep c 0 then outB X c 0 else if b = bKeep c 1 then outB X c 1
  else if b = aKeep (nx c) 0 then outA X (nx c) 0 else if b = aKeep (nx c) 1 then outA X (nx c) 1
  else if b = bKeep (ny c) 0 then outB X (ny c) 0 else outB X (ny c) 1

/-- The block of an index, and its place in the block. -/
def blockOf (i : S1024x512.Idx) : Fin 8 := ⟨(i 0).val / 128, by have : (i 0).val < 1024 := (i 0).isLt; omega⟩
def placeOf (i : S1024x512.Idx) : S128x512.Idx := fun a =>
  match a with
  | ⟨0, _⟩ => ⟨(i 0).val % 128, Nat.mod_lt _ (by decide)⟩
  | ⟨1, _⟩ => ⟨(i 1).val, (i 1).isLt⟩

/-- Device `c`'s result. -/
def outAt (c : Dev nD) : Vec F S1024x512 .f32 := fun i => oval X c (blockOf i) (placeOf i)

theorem blockOf_emb (b : Fin 8) (i : S128x512.Idx) : blockOf ((rows b).emb i) = b := by
  apply Fin.ext
  have h0 : (i 0).val < 128 := (i 0).isLt
  have : (((rows b).emb i) 0).val = 128 * b.val + (i 0).val := by
    rw [Rect.emb_apply]; simp
  simp only [blockOf, this]; omega

theorem placeOf_emb (b : Fin 8) (i : S128x512.Idx) : placeOf ((rows b).emb i) = i := by
  have h0 : (i 0).val < 128 := (i 0).isLt
  have e0 : (((rows b).emb i) 0).val = 128 * b.val + (i 0).val := by
    rw [Rect.emb_apply]; simp
  have e1 : (((rows b).emb i) 1).val = (i 1).val := by
    rw [Rect.emb_apply]; simp
  funext a
  match a with
  | ⟨0, _⟩ => apply Fin.ext; show (((rows b).emb i) 0).val % 128 = (i 0).val; rw [e0]; omega
  | ⟨1, _⟩ => apply Fin.ext; exact e1

/-- Block `b` of device `c`'s result. -/
theorem outAt_block (c : Dev nD) (b : Fin 8) : (fun i => outAt X c ((rows b).emb i)) = oval X c b := by
  funext i
  show oval X c (blockOf ((rows b).emb i)) (placeOf ((rows b).emb i)) = oval X c b i
  rw [blockOf_emb b i, placeOf_emb b i]

end Cert.AllReduce
-- ==== Proof.Schedule.lean ====
/-
  The protocol of the all-reduce kernel: which semaphore counts what, and what ownership each unit carries.

  A device's barrier semaphore takes one unit from each partner; with its unit a partner hands over the buffers that this device's
  transfers will land in. A transfer's send semaphore gives the sender back the memory it read, its receive semaphore gives the
  receiver the memory it landed in, at the value carried. Every semaphore is used once.
-/
module

public import proofs.«01_k».proof.Proof.Mesh

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

/-- The barrier semaphore. -/
abbrev barS : Sem sig := (SemArray.scalar (sig.barrier 0 rfl) : Sems sig S_).sem
/-- The kernel's own semaphores: twelve that count what was sent, then twelve that count what was received. -/
abbrev ownS (i : Fin 24) : DmaSem sig := ⟨2 + i.val, by have := i.isLt; show _ < 26; omega⟩
/-- Transfer `j`'s send semaphore. -/
abbrev sendS (j : Fin 12) : DmaSem sig := ⟨2 + j.val, by have := j.isLt; show _ < 26; omega⟩
/-- Transfer `j`'s receive semaphore. -/
abbrev recvS (j : Fin 12) : DmaSem sig := ⟨14 + j.val, by have := j.isLt; show _ < 26; omega⟩

abbrev barCell (c : Dev nD) : GSem nD τ sig := ((c : Thread nD τ), .reg barS)
abbrev sendCell (c : Dev nD) (j : Fin 12) : GSem nD τ sig := ((c : Thread nD τ), .dma (sendS j))
abbrev recvCell (c : Dev nD) (j : Fin 12) : GSem nD τ sig := ((c : Thread nD τ), .dma (recvS j))

/-- The credit of one transfer of 128 rows. -/
abbrev N : ℕ := (xB 0).view.dmaCredit
theorem N_pos : 0 < N := View.dmaCredit_pos _ (by decide)

theorem land_credit (j : Fin 12) (d : Dev nD) : (landM j d).view.dmaCredit = N := by
  revert j; intro j; fin_cases j <;> rfl

/-! ## Ownership -/

/-- Device `c` owns the 128 rows of `M`, which hold `v`. -/
abbrev holds (c : Dev nD) (M : Blk) (v : Val128 F) : sProp 𝕄 := owns (c : Thread nD τ) M fullShare v

/-- Device `c` owns the 128 rows of `M`, whatever they hold. -/
def free (c : Dev nD) (M : Blk) : sProp 𝕄 := iprop(∃ v, holds (F := F) c M v)

instance free_storable (c : Dev nD) (M : Blk) : BI.Storable (upEmb : UEmb _ 𝕄) (free (F := F) c M) := by
  unfold free; infer_instance

/-- The landing places of device `d` that its partner `nx d` writes to. -/
def slotsX (d : Dev nD) : sProp 𝕄 :=
  iprop(free (F := F) d (landM 0 d) ∗ free (F := F) d (landM 1 d) ∗ free (F := F) d (landM 6 d) ∗ free (F := F) d (landM 7 d)
    ∗ free (F := F) d (landM 8 d) ∗ free (F := F) d (landM 9 d))
/-- The landing places of device `d` that its partner `ny d` writes to. -/
def slotsY (d : Dev nD) : sProp 𝕄 :=
  iprop(free (F := F) d (landM 2 d) ∗ free (F := F) d (landM 3 d) ∗ free (F := F) d (landM 4 d) ∗ free (F := F) d (landM 5 d)
    ∗ free (F := F) d (landM 10 d) ∗ free (F := F) d (landM 11 d))

variable (X : Dev nD → Vec F S1024x512 .f32)

/-! ## The schedule -/

/-- What a unit of semaphore `g` carries. The barrier's duty `true` is paid by `nx`, its duty `false` by `ny`. -/
def payOf (c : Dev nD) (sm : SemLoc sig) (d : Bool) : sProp 𝕄 :=
  match sm with
  | .reg s => if s = barS then (if d then slotsX (F := F) (nx c) else slotsY (F := F) (ny c)) else iprop(emp)
  | .dma q =>
    if h : 2 ≤ q.val ∧ q.val < 14 then holds c (srcM ⟨q.val - 2, by omega⟩ c) (sval X ⟨q.val - 2, by omega⟩ c)
    else if h : 14 ≤ q.val ∧ q.val < 26 then holds c (landM ⟨q.val - 14, by omega⟩ c) (lval X ⟨q.val - 14, by omega⟩ c)
    else iprop(emp)

/-- Who pays a unit of the semaphore: nobody, the transfer, or the two partners. -/
def payers (sm : SemLoc sig) : Finset Bool :=
  match sm with
  | .reg s => if s = barS then Finset.univ else ∅
  | .dma q => if 2 ≤ q.val then {false} else ∅

/-- How much one payment is. -/
def payAmount (sm : SemLoc sig) : ℕ :=
  match sm with
  | .reg _ => 1
  | .dma _ => N

/-- The schedule: each semaphore of a device's core is used in one round. -/
def sched : Rounds.Schedule (GSem nD τ sig) Bool 𝕄 where
  duties g r := if r = 0 ∧ g.1.2 = .tc then payers g.2 else ∅
  unitless _ := False
  amount g _ _ := payAmount g.2
  payload g _ d := payOf X g.1.1 g.2 d
  amount_pos g _ _ _ := by
    obtain ⟨_, sm⟩ := g
    cases sm with
    | reg s => exact Nat.one_pos
    | dma q => exact N_pos

instance sched_payload_storable (g : GSem nD τ sig) (r : ℕ) (d : Bool) :
    BI.Storable (upEmb : UEmb _ 𝕄) ((sched (F := F) X).payload g r d) := by
  show BI.Storable upEmb (payOf X g.1.1 g.2 d)
  unfold payOf slotsX slotsY
  (repeat' split) <;> infer_instance

section Sched
variable (c : Dev nD) (j : Fin 12)

theorem duties_bar : (sched (F := F) X).duties (barCell c) 0 = Finset.univ := by
  dsimp only [sched, payers]; rw [if_pos ⟨rfl, rfl⟩, if_pos rfl]
theorem duties_send : (sched (F := F) X).duties (sendCell c j) 0 = {false} := by
  dsimp only [sched, payers]; rw [if_pos ⟨rfl, rfl⟩, if_pos (by omega)]
theorem duties_recv : (sched (F := F) X).duties (recvCell c j) 0 = {false} := by
  dsimp only [sched, payers]; rw [if_pos ⟨rfl, rfl⟩, if_pos (by omega)]
theorem duties_later (g : GSem nD τ sig) : ∀ r, 1 ≤ r → (sched (F := F) X).duties g r = ∅ :=
  fun r hr => if_neg fun h => by omega

theorem expect_bar : (sched (F := F) X).expect (barCell c) 0 = 2 := by
  unfold Schedule.expect Schedule.amountOf; rw [duties_bar]; rfl
theorem expect_send : (sched (F := F) X).expect (sendCell c j) 0 = N := by
  unfold Schedule.expect Schedule.amountOf; rw [duties_send, Finset.sum_singleton]; rfl
theorem expect_recv : (sched (F := F) X).expect (recvCell c j) 0 = N := by
  unfold Schedule.expect Schedule.amountOf; rw [duties_recv, Finset.sum_singleton]; rfl

theorem payload_bar_true : (sched (F := F) X).payload (barCell c) 0 true = slotsX (F := F) (nx c) := by
  dsimp only [sched, payOf]; rw [if_pos rfl, if_pos rfl]
theorem payload_bar_false : (sched (F := F) X).payload (barCell c) 0 false = slotsY (F := F) (ny c) := by
  dsimp only [sched, payOf]; rw [if_pos rfl]; exact if_neg Bool.false_ne_true
theorem payload_send (d : Bool) : (sched (F := F) X).payload (sendCell c j) 0 d = holds c (srcM j c) (sval X j c) := by
  dsimp only [sched, payOf]
  rw [dif_pos (by have := j.isLt; omega)]
  have e : (⟨2 + j.val - 2, by have := j.isLt; omega⟩ : Fin 12) = j := Fin.ext (by simp)
  simp only [e]
theorem payload_recv (d : Bool) : (sched (F := F) X).payload (recvCell c j) 0 d = holds c (landM j c) (lval X j c) := by
  dsimp only [sched, payOf]
  rw [dif_neg (by omega), dif_pos (by have := j.isLt; omega)]
  have e : (⟨14 + j.val - 14, by have := j.isLt; omega⟩ : Fin 12) = j := Fin.ext (by simp)
  simp only [e]

/-- What the barrier wait brings: both partners' landing places. -/
theorem rest_bar : bigSep ((sched (F := F) X).duties (barCell c) 0 \ ∅) (fun d => (sched (F := F) X).payload (barCell c) 0 d)
    = iprop(slotsY (F := F) (ny c) ∗ slotsX (F := F) (nx c)) := by
  rw [Finset.sdiff_empty, duties_bar, bigSep_univ_eq_bigSepL [false, true] (by decide) (by decide), bigSepL_cons_cons, bigSepL_singleton,
    payload_bar_false, payload_bar_true]
  rfl
theorem rest_send : bigSep ((sched (F := F) X).duties (sendCell c j) 0 \ ∅) (fun d => (sched (F := F) X).payload (sendCell c j) 0 d)
    = holds c (srcM j c) (sval X j c) := by
  rw [Finset.sdiff_empty, duties_send, bigSep_singleton, payload_send]
theorem rest_recv : bigSep ((sched (F := F) X).duties (recvCell c j) 0 \ ∅) (fun d => (sched (F := F) X).payload (recvCell c j) 0 d)
    = holds c (landM j c) (lval X j c) := by
  rw [Finset.sdiff_empty, duties_recv, bigSep_singleton, payload_recv]

end Sched

/-! ## What a device owes, and the levels -/

/-- What device `c` owes while the transfers in `l` are still to be started: each one's credit, to the device it goes to. -/
def owed (c : Dev nD) : List (Fin 12) → CellTallies nD τ sig Unit
  | [] => 0
  | j :: l => owed c l + tallyAt (recvCell (tgt j c) j) () N

/-- The transfers in the order the kernel starts them. -/
abbrev order : List (Fin 12) := [0, 2, 1, 3, 4, 6, 5, 7, 8, 10, 9, 11]

/-- What device `c` owes once it has signalled `nx c`, and at the start. -/
def O₁ (c : Dev nD) : CellTallies nD τ sig Unit := owed c order + tallyAt (barCell (ny c)) () 1
def O₀ (c : Dev nD) : CellTallies nD τ sig Unit := O₁ c + tallyAt (barCell (nx c)) () 1

def L (g : GSem nD τ sig) : Finset Unit := if g.1.2 = .tc then {()} else ∅
/-- The level of a semaphore: sends and the pipeline's own lowest, then the barrier, then the receives in order. -/
def lv (g : GSem nD τ sig) (_ : Unit) : ℕ :=
  match g.2 with
  | .reg _ => 1
  | .dma q => if 14 ≤ q.val then q.val - 12 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 12) (u : Unit) : lv (recvCell c j) u = j.val + 2 := by
  dsimp only [lv]; rw [if_pos (by omega)]; omega
theorem lv_send (c : Dev nD) (j : Fin 12) (u : Unit) : lv (sendCell c j) u = 0 := by
  dsimp only [lv]; rw [if_neg (by have := j.isLt; omega)]

theorem owed_pos {c : Dev nD} {l : List (Fin 12)} {g : GSem nD τ sig} {u : Unit} (h : 0 < owed c l g u) :
    ∃ j ∈ l, g = recvCell (tgt j c) j := by
  induction l with
  | nil => exact absurd h (Nat.lt_irrefl 0)
  | cons j l ih =>
    rw [owed, Pi.add_apply, Finsupp.add_apply, tallyAt_apply] at h
    by_cases hg : g = recvCell (tgt j c) j ∧ u = ()
    · exact ⟨j, List.mem_cons_self, hg.1⟩
    · rw [if_neg hg, add_zero] at h
      obtain ⟨j', hj', e⟩ := ih h
      exact ⟨j', List.mem_cons_of_mem _ hj', e⟩

theorem O₀_pos {c : Dev nD} {g : GSem nD τ sig} {u : Unit} (h : 0 < O₀ c g u) :
    (∃ j, g = recvCell (tgt j c) j) ∨ ∃ d, g = barCell d := by
  unfold O₀ O₁ at h
  rw [Pi.add_apply, Finsupp.add_apply, Pi.add_apply, Finsupp.add_apply, tallyAt_apply, tallyAt_apply] at h
  by_cases h1 : g = barCell (ny c) ∧ u = ()
  · exact .inr ⟨_, h1.1⟩
  by_cases h2 : g = barCell (nx c) ∧ u = ()
  · exact .inr ⟨_, h2.1⟩
  rw [if_neg h1, if_neg h2, add_zero, add_zero] at h
  obtain ⟨j, -, e⟩ := owed_pos h
  exact .inl ⟨j, e⟩

/-- A device may wait on a semaphore whose level is below those of all the transfers it has still to start. -/
theorem mayWait_of_lt (c : Dev nD) (sm : SemLoc sig) (l : List (Fin 12)) (h : ∀ j ∈ l, lv ((c : Thread nD τ), sm) () < j.val + 2) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp])
    (fun g u hg => by obtain ⟨j, hj, rfl⟩ := owed_pos hg; rw [lv_recv]; exact h j hj)

/-- The pipeline may wait on its own semaphores before and after the kernel's body. -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by rw [Finset.mem_singleton.mp hp]; dsimp only [lv]; rw [if_neg (by omega)])
      (fun g u hg => by
        rcases O₀_pos hg with ⟨j, rfl⟩ | ⟨d, rfl⟩
        · rw [lv_recv]; omega
        · exact Nat.one_pos)
  · rw [MayWait_zero]; iintro -; iempintro

end Cert.AllReduce
-- ==== Proof.Rules.lean ====
/-
  One rule per effect of the kernel's body, stated at the protocol of `Schedule.lean`: a load and a store of 128 rows, starting
  transfer `j`, and the two waits that end it.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Memory
variable {s : Shape} (c : Dev nD) (M : Memref sig .tc .vmem s .f32) (r : Rect s) (hr : ∀ a, r.stride a = 1)

/-- A load of rows that are owned reads what they hold. -/
theorem wp_load_holds {r' : Rect s} (he : r' = r) {hl : M.view.LoadsAt r'.toLoadRect}
    {α : Type} {Q : α → sProp 𝕄} {k : (r'.shape.Idx → Elt F .f32) → Prog (TpuEff nD τ sig (Elt F) Λ₀ .tc) α} (v : r.shape.Idx → Elt F .f32) :
    (owns (c : Thread nD τ) (M.slice r hr) fullShare v : sProp 𝕄)
      ⊢ iprop((owns (c : Thread nD τ) (M.slice r hr) fullShare v -∗ run c (k (he ▸ v)) Q)
          -∗ run c (.op (.load M r'.toLoadRect hl) k) Q) := by
  subst he
  unfold owns
  iintro ⟨%f, %hf, H⟩ Hk
  iapply (wp_load_rect 𝒱₀ (c : Thread nD τ) none Set.univ (m := M) (r := r') subset_rfl) $$ H
  iintro H
  rw [show (M.access r').read (Elt F) f = v from hf]
  iapply Hk
  iexists f; isplitr; · ipureintro; exact hf
  iexact H

/-- A store to rows that are owned leaves them holding what was stored. -/
theorem wp_store_holds {r' : Rect s} (he : r' = r) {w : r'.shape.Idx → Elt F .f32} {hx : (M.access r').Stores Finset.univ}
    {hm : (Finset.univ : Finset r'.shape.Idx) = Finset.univ ∨ ∀ a, r'.stride a = 1}
    {α : Type} {Q : α → sProp 𝕄} {k : PUnit → Prog (TpuEff nD τ sig (Elt F) Λ₀ .tc) α} (v : r.shape.Idx → Elt F .f32) :
    (owns (c : Thread nD τ) (M.slice r hr) fullShare v : sProp 𝕄)
      ⊢ iprop((owns (c : Thread nD τ) (M.slice r hr) fullShare (he ▸ w) -∗ run c (k ⟨⟩) Q)
          -∗ run c (.op (.store M r' w Finset.univ hx hm) k) Q) := by
  subst he
  unfold owns
  iintro ⟨%f, %hf, H⟩ Hk
  iapply (wp_store 𝒱₀ (c : Thread nD τ) none Set.univ (m := M) (r := r') (S := (M.slice r' hr).view.set) (Mk := Finset.univ) (by rfl)) $$ H
  iintro H
  iapply Hk
  iexists ((M.access r').write (Elt F) f w Finset.univ)
  isplitr; · ipureintro; exact View.read_write_univ _ _
  iexact H

end Memory

/-! ## The protocol's rules -/

variable (X : Dev nD → Vec F S1024x512 .f32)

/-- The twenty-five semaphores of a device's core that the protocol uses: the barrier, then the kernel's own. -/
def csem : Fin 25 → SemLoc sig := Fin.cases (.reg barS) fun i => .dma (ownS i)
abbrev kcell (ck : Dev nD × Fin 25) : GSem nD τ sig := ((ck.1 : Thread nD τ), csem ck.2)

abbrev sendIx (j : Fin 12) : Fin 25 := ⟨1 + j.val, by have := j.isLt; omega⟩
abbrev recvIx (j : Fin 12) : Fin 25 := ⟨13 + j.val, by have := j.isLt; omega⟩

theorem csem_zero : csem 0 = .reg barS := rfl
theorem csem_send (j : Fin 12) : csem (sendIx j) = .dma (sendS j) := by revert j; decide
theorem csem_recv (j : Fin 12) : csem (recvIx j) = .dma (recvS j) := by revert j; decide

/-- What every device knows: each semaphore's invariant, under the names `K`, that each has been opened, and the levels. -/
def world (K : Dev nD × Fin 25 → ℕ) : sProp 𝕄 :=
  iprop(bigSep Finset.univ (fun ck : Dev nD × Fin 25 => iprop(cellInv ER (sched (F := F) X) (K ck) (kcell ck) ∗ reached ER (kcell ck) 0))
    ∗ levAts L lv)

instance world_persistent (K : Dev nD × Fin 25 → ℕ) : BI.Persistent (world (F := F) X K) := by unfold world; infer_instance

variable (K : Dev nD × Fin 25 → ℕ)

theorem world_cell (ck : Dev nD × Fin 25) :
    world X K ⊢ iprop(cellInv ER (sched (F := F) X) (K ck) (kcell ck) ∗ reached ER (kcell ck) 0) := by
  unfold world
  exact sep_elim_left.trans (bigSep_elim (Finset.mem_univ ck))
theorem world_bar (c : Dev nD) :
    world X K ⊢ iprop(cellInv ER (sched (F := F) X) (K (c, 0)) (barCell c) ∗ reached ER (barCell c) 0) := world_cell X K (c, 0)
theorem world_send (c : Dev nD) (j : Fin 12) :
    world X K ⊢ iprop(cellInv ER (sched (F := F) X) (K (c, sendIx j)) (sendCell c j) ∗ reached ER (sendCell c j) 0) := by
  have h := world_cell X K (c, sendIx j)
  rwa [show kcell (c, sendIx j) = sendCell c j from congrArg (fun s => ((c : Thread nD τ), s)) (csem_send j)] at h
theorem world_recv (c : Dev nD) (j : Fin 12) :
    world X K ⊢ iprop(cellInv ER (sched (F := F) X) (K (c, recvIx j)) (recvCell c j) ∗ reached ER (recvCell c j) 0) := by
  have h := world_cell X K (c, recvIx j)
  rwa [show kcell (c, recvIx j) = recvCell c j from congrArg (fun s => ((c : Thread nD τ), s)) (csem_recv j)] at h
theorem world_lev : world (F := F) X K ⊢ levAts L lv := by unfold world; exact sep_elim_right

/-- Device `c` owes `O`, whatever it has waited for. -/
def owing (c : Dev nD) (O : CellTallies nD τ sig Unit) : sProp 𝕄 := iprop(∃ W, owes (c : Thread nD τ) O W)

/-- The right to start transfer `j`: to pay its send semaphore, and the receive semaphore of the device it goes to. -/
def sendRight (c : Dev nD) (j : Fin 12) : sProp 𝕄 :=
  iprop(dutyTok ER (sendCell c j) 0 false ∗ dutyTok ER (recvCell (tgt j c) j) 0 false)
/-- The right to wait on transfer `j`'s send semaphore. -/
def sendPos (c : Dev nD) (j : Fin 12) : sProp 𝕄 := atPos ER (sendCell c j) 0 ∅ 0
/-- The right to wait on transfer `j`'s receive semaphore, and the credit that will fill it. -/
def recvPos (c : Dev nD) (j : Fin 12) : sProp 𝕄 :=
  iprop(atPos ER (recvCell c j) 0 ∅ 0 ∗ cred (tallyAt (recvCell c j) () N))

variable (c : Dev nD) (j : Fin 12) (l : List (Fin 12))

/-- Elements read as `v` are rows that hold `v`. -/
theorem holds_of (d : Dev nD) (M : Blk) {v : Val128 F} (f : Buf (Elt F) (M.view.loc (d : Thread nD τ))) (h : M.view.read (Elt F) f = v) :
    (M.view.loc (d : Thread nD τ) ↦[M.view.set]{fullShare} f : sProp 𝕄) ⊢ holds d M v := by
  unfold holds owns; iintro H; iexists f; isplitr; · ipureintro; exact h
  iexact H

/-- Starting transfer `j`: the memory it reads and the place it lands in are given up; the credit of its send semaphore comes. -/
theorem wp_start {src dst : Blk} {n : Dev nD} (hn : n = tgt j c) (hs : src = srcM j c) (hd : dst = landM j (tgt j c))
    {hsc : (dst : Memref sig (Dev.tc n : Thread nD τ).2.kind .vmem S128x512 .f32).view.ref.isScScratch = false}
    {hsrc : src.view.WordExact} {hdst : dst.view.WordExact}
    {hsem : DmaTarget.Typed .vmem (.dma (recvS j)) (.remote (Dev.tc n : Thread nD τ) (dst : Memref sig (Dev.tc n : Thread nD τ).2.kind .vmem S128x512 .f32) (.dma (sendS j)) hsc)}
    {α : Type} {Q : α → sProp 𝕄} {k : PUnit → Prog (TpuEff nD τ sig (Elt F) Λ₀ .tc) α} :
    world X K
      ⊢ iprop(sendRight (F := F) c j -∗ holds c (srcM j c) (sval X j c) -∗ free (F := F) (tgt j c) (landM j (tgt j c)) -∗ owing c (owed c (j :: l)) -∗ (cred (tallyAt (sendCell c j) () N) ∗ owing c (owed c l) -∗ run c (k ⟨⟩) Q)
          -∗ run c (.op (.enqueueDma src (.remote (Dev.tc n : Thread nD τ) (dst : Memref sig (Dev.tc n : Thread nD τ).2.kind .vmem S128x512 .f32) (.dma (sendS j)) hsc) (.dma (recvS j)) hsrc hdst hsem) k) Q) := by
  subst hn
  subst hs hd
  unfold sendRight free owing holds owns
  iintro #HW ⟨HtS, HtR⟩ ⟨%fs, %hfs, Hs⟩ ⟨%v, %fd, %hfd, Hd⟩ ⟨%W, HO⟩ Hk
  ihave H1 := (world_send X K c j) $$ HW
  icases H1 with ⟨#HI1, #HR1⟩
  ihave H2 := (world_recv X K (tgt j c) j) $$ HW
  icases H2 with ⟨#HI2, #HR2⟩
  iapply (Rounds.wp_send_pointsTo 𝒱₀ ER (sched (F := F) X) (c : Thread nD τ) none (κ₁ := K (c, sendIx j)) (κ₂ := K (tgt j c, recvIx j))
    (r₁ := 0) (r₂ := 0) (d₁ := false) (d₂ := false) (c' := (tgt j c : Thread nD τ)) (src := srcM j c) (dst := landM j (tgt j c)) (sem := .dma (recvS j)) (fd := fd) (fs := fs)
    (by rw [duties_send]; exact Finset.mem_singleton_self _) (by rw [duties_recv]; exact Finset.mem_singleton_self _)
    () () N (land_credit j (tgt j c)) rfl rfl (owed c l) rfl (W := W)
    (by rw [payload_send]; exact holds_of c _ fs hfs)
    (by rw [payload_recv, lval_tgt]; exact holds_of (tgt j c) _ _ ((View.read_write_univ _ _).trans hfs))) $$ [Hs Hd HO HtS HtR]
  · isplitr; · iexact HI1
    isplitr; · iexact HI2
    isplitl [Hs]; · iexact Hs
    isplitl [Hd]; · iexact Hd
    isplitl [HO]; · iexact HO
    isplitl [HtS]; · iexact HtS
    isplitr; · iexact HR1
    isplitl [HtR]; · iexact HtR
    iexact HR2
  iintro ⟨Hc, HO⟩
  iapply Hk
  isplitl [Hc]; · iexact Hc
  iexists W; iexact HO

/-- The wait for transfer `j` to have left: the memory it read comes back, and the semaphore's counter stands at zero. -/
theorem wp_sent {s₁ s₂ : Space} {sh₁ sh₂ : Shape} {e₁ e₂ : EltTy} {src : Memref sig .tc s₁ sh₁ e₁} {dst : Memref sig .tc s₂ sh₂ e₂}
    {hsrc : src.view.WordExact} {hdst : dst.view.WordExact} (hN : dst.view.dmaCredit = N)
    {α : Type} {Q : α → sProp 𝕄} {k : PUnit → Prog (TpuEff nD τ sig (Elt F) Λ₀ .tc) α} :
    world X K
      ⊢ iprop(sendPos (F := F) c j -∗ cred (tallyAt (sendCell c j) () N) -∗ owing c (owed c l) -∗ (owing c (owed c l) ∗ semVal (sendCell c j) 0 ∗ holds c (srcM j c) (sval X j c) -∗ run c (k ⟨⟩) Q)
          -∗ run c (.op (.waitDma2 (sendS j) src dst hsrc hdst) k) Q) := by
  unfold sendPos owing
  iintro #HW Hat Hc ⟨%W, HO⟩ Hk
  ihave H1 := (world_send X K c j) $$ HW
  icases H1 with ⟨#HI, #HR⟩
  iapply (Rounds.wp_wait_rest_token 𝒱₀ ER (sched (F := F) X) (c : Thread nD τ) none (κ := K (c, sendIx j))
      (wpE_waitDma2_eq 𝒱₀ (c : Thread nD τ) none Set.univ) (Set.mem_univ _) () (O := owed c l) (W := W) (R := 0) (m := 0) (T := ∅)
      (by rw [Nat.zero_add, hN, expect_send])) $$ [Hc HO Hat]
  · isplitr; · iexact HI
    isplitl [Hc]; · rw [hN]; iexact Hc
    isplitl [HO]; · iexact HO
    isplitr
    · iapply (mayWait_of_lt c (.dma (sendS j)) l fun j' _ => by rw [lv_send]; omega)
      iapply (world_lev X K); iexact HW
    iexact Hat
  iintro ⟨HO, Hat, -, Hpay⟩
  ihave Hpay := (Entails.of_eq (rest_send X c j)) $$ Hpay
  imod (Rounds.cell_close ER (sched (F := F) X) (Set.mem_univ (K (c, sendIx j))) (fun h => h) (R := 0 + 1) (duties_later X (sendCell c j))) $$ [Hat] with Hz
  · isplitr; · iexact HI
    iexact Hat
  iapply Hk
  isplitl [HO]; · iexists _; iexact HO
  isplitl [Hz]; · iexact Hz
  iexact Hpay

/-- The wait for transfer `j` to have landed here: the memory it landed in comes, and the semaphore's counter stands at zero. -/
theorem wp_landed {s₁ s₂ : Space} {sh₁ sh₂ : Shape} {e₁ e₂ : EltTy} {src : Memref sig .tc s₁ sh₁ e₁} {dst : Memref sig .tc s₂ sh₂ e₂}
    {hsrc : src.view.WordExact} {hdst : dst.view.WordExact} (hN : dst.view.dmaCredit = N)
    {α : Type} {Q : α → sProp 𝕄} {k : PUnit → Prog (TpuEff nD τ sig (Elt F) Λ₀ .tc) α} (hl : ∀ j' ∈ l, j.val < j'.val) :
    world X K
      ⊢ iprop(recvPos (F := F) c j -∗ owing c (owed c l) -∗ (owing c (owed c l) ∗ semVal (recvCell c j) 0 ∗ holds c (landM j c) (lval X j c) -∗ run c (k ⟨⟩) Q)
          -∗ run c (.op (.waitDma2 (recvS j) src dst hsrc hdst) k) Q) := by
  unfold recvPos owing
  iintro #HW ⟨Hat, Hc⟩ ⟨%W, HO⟩ Hk
  ihave H1 := (world_recv X K c j) $$ HW
  icases H1 with ⟨#HI, #HR⟩
  iapply (Rounds.wp_wait_rest_token 𝒱₀ ER (sched (F := F) X) (c : Thread nD τ) none (κ := K (c, recvIx j))
      (wpE_waitDma2_eq 𝒱₀ (c : Thread nD τ) none Set.univ) (Set.mem_univ _) () (O := owed c l) (W := W) (R := 0) (m := 0) (T := ∅)
      (by rw [Nat.zero_add, hN, expect_recv])) $$ [Hc HO Hat]
  · isplitr; · iexact HI
    isplitl [Hc]; · rw [hN]; iexact Hc
    isplitl [HO]; · iexact HO
    isplitr
    · iapply (mayWait_of_lt c (.dma (recvS j)) l fun j' hj' => by rw [lv_recv]; have := hl j' hj'; omega)
      iapply (world_lev X K); iexact HW
    iexact Hat
  iintro ⟨HO, Hat, -, Hpay⟩
  ihave Hpay := (Entails.of_eq (rest_recv X c j)) $$ Hpay
  imod (Rounds.cell_close ER (sched (F := F) X) (Set.mem_univ (K (c, recvIx j))) (fun h => h) (R := 0 + 1) (duties_later X (recvCell c j))) $$ [Hat] with Hz
  · isplitr; · iexact HI
    iexact Hat
  iapply Hk
  isplitl [HO]; · iexists _; iexact HO
  isplitl [Hz]; · iexact Hz
  iexact Hpay

/-- A unit paid to a partner's barrier, with what it hands over. -/
theorem wp_notify (n : Dev nD) (d : Bool) (O : CellTallies nD τ sig Unit) {a : ℤ} (ha : a = 1)
    {α : Type} {Q : α → sProp 𝕄} {k : PUnit → Prog (TpuEff nD τ sig (Elt F) Λ₀ .tc) α} :
    world X K
      ⊢ iprop(owing c (O + tallyAt (barCell n) () 1) -∗ dutyTok ER (barCell n) 0 d -∗ (sched (F := F) X).payload (barCell n) 0 d -∗ (owing c O -∗ run c (k ⟨⟩) Q) -∗ run c (.op (.semSignal (n : Thread nD τ) barS a) k) Q) := by
  subst ha
  unfold owing
  iintro #HW ⟨%W, HO⟩ Ht Hp Hk
  ihave H1 := (world_bar X K n) $$ HW
  icases H1 with ⟨#HI, #HR⟩
  iapply (Rounds.wp_signal 𝒱₀ ER (sched (F := F) X) (c : Thread nD τ) none (dst := (n : Thread nD τ)) (κ := K (n, 0))
      (d := d) (by rw [duties_bar]; exact Finset.mem_univ _) rfl () O rfl) $$ [HO Ht Hp]
  · isplitr; · iexact HI
    isplitl [HO]; · iexact HO
    isplitl [Ht]; · iexact Ht
    isplitl [Hp]; · iexact Hp
    iexact HR
  iintro HO
  iapply Hk; iexists W; iexact HO

/-- The wait for both partners' units: their landing places come, and the barrier's counter stands at zero. -/
theorem wp_barrier {a : ℤ} (ha : a = 2) (hl : ∀ j' ∈ l, 1 < j'.val + 2)
    {α : Type} {Q : α → sProp 𝕄} {k : PUnit → Prog (TpuEff nD τ sig (Elt F) Λ₀ .tc) α} :
    world X K
      ⊢ iprop(atPos ER (barCell c) 0 ∅ 0 -∗ cred (tallyAt (barCell c) () 2) -∗ owing c (owed c l) -∗ (owing c (owed c l) ∗ semVal (barCell c) 0 ∗ slotsY (F := F) (ny c) ∗ slotsX (F := F) (nx c) -∗ run c (k ⟨⟩) Q)
          -∗ run c (.op (.semWait barS a) k) Q) := by
  subst ha
  unfold owing
  iintro #HW Hat Hc ⟨%W, HO⟩ Hk
  ihave H1 := (world_bar X K c) $$ HW
  icases H1 with ⟨#HI, #HR⟩
  iapply (Rounds.wp_wait_rest_token 𝒱₀ ER (sched (F := F) X) (c : Thread nD τ) none (κ := K (c, 0))
      (wpE_semWait_eq 𝒱₀ (c : Thread nD τ) none Set.univ) (Set.mem_univ _) () (O := owed c l) (W := W) (R := 0) (m := 0) (T := ∅)
      (by rw [expect_bar])) $$ [Hc HO Hat]
  · isplitr; · iexact HI
    isplitl [Hc]; · iexact Hc
    isplitl [HO]; · iexact HO
    isplitr
    · iapply (mayWait_of_lt c (.reg barS) l hl)
      iapply (world_lev X K); iexact HW
    iexact Hat
  iintro ⟨HO, Hat, -, Hpay⟩
  ihave Hpay := (Entails.of_eq (rest_bar X c)) $$ Hpay
  imod (Rounds.cell_close ER (sched (F := F) X) (Set.mem_univ (K (c, 0))) (fun h => h) (R := 0 + 1) (duties_later X (barCell c))) $$ [Hat] with Hz
  · isplitr; · iexact HI
    iexact Hat
  iapply Hk
  isplitl [HO]; · iexists _; iexact HO
  isplitl [Hz]; · iexact Hz
  iexact Hpay

/-! ## The steps the body is made of -/

section Steps

variable {n : Fin 2 → ℕ} (M : Memref sig .tc .vmem ⟨2, n⟩ .f32) {off off' : Fin 2 → ℕ}
  {inb : ∀ a, off a + S128x512.size a ≤ n a} {inb' : ∀ a, off' a + S128x512.size a ≤ n a}

/-- A rectangle that is held is read at its value, whatever way its offset is written. -/
theorem wp_read (ho : off = off') {hr : ∀ a, (Rect.unit (s := ⟨2, n⟩) off' S128x512.size inb').stride a = 1} {hl : M.view.LoadsAt (Rect.unit (s := ⟨2, n⟩) off S128x512.size inb).toLoadRect}
    {α : Type} {Q : α → sProp 𝕄} {k : Val128 F → Prog (TpuEff nD τ sig (Elt F) Λ₀ .tc) α}
    (v : Val128 F) :
    (holds c (M.slice (Rect.unit (s := ⟨2, n⟩) off' S128x512.size inb') hr : Blk) v : sProp 𝕄)
      ⊢ iprop((holds c (M.slice (Rect.unit (s := ⟨2, n⟩) off' S128x512.size inb') hr : Blk) v -∗ run c (k v) Q)
          -∗ run c (.op (.load M (Rect.unit (s := ⟨2, n⟩) off S128x512.size inb).toLoadRect hl) k) Q) := by
  subst ho
  exact wp_load_holds c M (Rect.unit (s := ⟨2, n⟩) off S128x512.size inb) hr rfl v

/-- A rectangle that is held is written. -/
theorem wp_write {hr : ∀ a, (Rect.unit (s := ⟨2, n⟩) off S128x512.size inb).stride a = 1}
    {w : Val128 F} {hx : (M.access (Rect.unit (s := ⟨2, n⟩) off S128x512.size inb)).Stores Finset.univ}
    {hm : (Finset.univ : Finset (Rect.unit (s := ⟨2, n⟩) off S128x512.size inb).shape.Idx) = Finset.univ ∨ ∀ a, (Rect.unit (s := ⟨2, n⟩) off S128x512.size inb).stride a = 1}
    {α : Type} {Q : α → sProp 𝕄} {k : PUnit → Prog (TpuEff nD τ sig (Elt F) Λ₀ .tc) α} (v : Val128 F) :
    (holds c (M.slice (Rect.unit (s := ⟨2, n⟩) off S128x512.size inb) hr : Blk) v : sProp 𝕄)
      ⊢ iprop((holds c (M.slice (Rect.unit (s := ⟨2, n⟩) off S128x512.size inb) hr : Blk) w -∗ run c (k ⟨⟩) Q)
          -∗ run c (.op (.store M (Rect.unit (s := ⟨2, n⟩) off S128x512.size inb) w Finset.univ hx hm) k) Q) :=
  wp_store_holds c M (Rect.unit (s := ⟨2, n⟩) off S128x512.size inb) hr rfl v

/-- A free rectangle is read, what was read is dropped, and it is written: it now holds what was written. -/
theorem wp_fill (ho : off = off') {hr : ∀ a, (Rect.unit (s := ⟨2, n⟩) off' S128x512.size inb').stride a = 1} {hl : M.view.LoadsAt (Rect.unit (s := ⟨2, n⟩) off S128x512.size inb).toLoadRect}
    {w : Val128 F} {hx : (M.access (Rect.unit (s := ⟨2, n⟩) off S128x512.size inb)).Stores Finset.univ}
    {hm : (Finset.univ : Finset (Rect.unit (s := ⟨2, n⟩) off S128x512.size inb).shape.Idx) = Finset.univ ∨ ∀ a, (Rect.unit (s := ⟨2, n⟩) off S128x512.size inb).stride a = 1}
    {α : Type} {Q : α → sProp 𝕄} {k : PUnit → Prog (TpuEff nD τ sig (Elt F) Λ₀ .tc) α} :
    free (F := F) c (M.slice (Rect.unit (s := ⟨2, n⟩) off' S128x512.size inb') hr : Blk)
      ⊢ iprop((holds c (M.slice (Rect.unit (s := ⟨2, n⟩) off' S128x512.size inb') hr : Blk) w -∗ run c (k ⟨⟩) Q)
          -∗ run c (.op (.load M (Rect.unit (s := ⟨2, n⟩) off S128x512.size inb).toLoadRect hl) fun _ => .op (.store M (Rect.unit (s := ⟨2, n⟩) off S128x512.size inb) w Finset.univ hx hm) k) Q) := by
  subst ho
  unfold free
  iintro ⟨%v, H⟩ Hk
  iapply (wp_read c M rfl v) $$ H
  iintro H
  iapply (wp_write c M v) $$ H Hk

end Steps

/-- Transfer `j` is over on both sides: its source is given back, and what came from the other device is held. -/
theorem wp_arrived (j : Fin 12) (l : List (Fin 12)) {n n' : Fin 2 → ℕ} (M : Memref sig .tc .vmem ⟨2, n⟩ .f32) (M' : Memref sig .tc .vmem ⟨2, n'⟩ .f32)
    {off off' : Fin 2 → ℕ} {inb : ∀ a, off a + S128x512.size a ≤ n a} {inb' : ∀ a, off' a + S128x512.size a ≤ n' a}
    {hr : ∀ a, (Rect.unit (s := ⟨2, n⟩) off S128x512.size inb).stride a = 1} {hr' : ∀ a, (Rect.unit (s := ⟨2, n'⟩) off' S128x512.size inb').stride a = 1}
    {src src' : Blk}
    {hsrc : src.view.WordExact} {hdst : (M.slice (Rect.unit (s := ⟨2, n⟩) off S128x512.size inb) hr : Blk).view.WordExact} {hsrc' : src'.view.WordExact} {hdst' : (M'.slice (Rect.unit (s := ⟨2, n'⟩) off' S128x512.size inb') hr' : Blk).view.WordExact}
    (hN : ∀ o i h, (M.slice (Rect.unit (s := ⟨2, n⟩) o S128x512.size i) h : Blk).view.dmaCredit = N)
    (hN' : ∀ o i h, (M'.slice (Rect.unit (s := ⟨2, n'⟩) o S128x512.size i) h : Blk).view.dmaCredit = N) (hl : ∀ j' ∈ l, j.val < j'.val)
    {α : Type} {Q : α → sProp 𝕄} {k : PUnit → Prog (TpuEff nD τ sig (Elt F) Λ₀ .tc) α} :
    world X K
      ⊢ iprop(sendPos (F := F) c j -∗ cred (tallyAt (sendCell c j) () N) -∗ recvPos (F := F) c j -∗ owing c (owed c l)
          -∗ (owing c (owed c l) ∗ (semVal (sendCell c j) 0 ∗ semVal (recvCell c j) 0) ∗ holds c (srcM j c) (sval X j c) ∗ holds c (landM j c) (lval X j c)
            -∗ run c (k ⟨⟩) Q)
          -∗ run c (.op (.waitDma2 (sendS j) src (M.slice (Rect.unit (s := ⟨2, n⟩) off S128x512.size inb) hr : Blk) hsrc hdst) fun _ => .op (.waitDma2 (recvS j) src' (M'.slice (Rect.unit (s := ⟨2, n'⟩) off' S128x512.size inb') hr' : Blk) hsrc' hdst') k) Q) := by
  iintro #HW Hs Hc Hr HO Hk
  iapply (wp_sent X K c j l (hN _ _ _)) $$ HW Hs Hc HO
  iintro ⟨HO, Hz, Hm⟩
  iapply (wp_landed X K c j l (hN' _ _ _) hl) $$ HW Hr HO
  iintro ⟨HO, Hz', Hm'⟩
  iapply Hk
  iframe

section Combine

variable {n₁ n₂ n₃ : Fin 2 → ℕ}

/-- Two blocks are read and put together by `pay` into a free third, which transfer `j` then sends. -/
theorem wp_combine (j : Fin 12) (l : List (Fin 12)) (P₁ P₂ : Blk)
    (M₁ : Memref sig .tc .vmem ⟨2, n₁⟩ .f32) (M₂ : Memref sig .tc .vmem ⟨2, n₂⟩ .f32) (M₃ : Memref sig .tc .vmem ⟨2, n₃⟩ .f32)
    {o₁ o₁' o₂ o₂' o₃ o₃' : Fin 2 → ℕ}
    {i₁ : ∀ a, o₁ a + S128x512.size a ≤ n₁ a} {i₁' : ∀ a, o₁' a + S128x512.size a ≤ n₁ a}
    {i₂ : ∀ a, o₂ a + S128x512.size a ≤ n₂ a} {i₂' : ∀ a, o₂' a + S128x512.size a ≤ n₂ a}
    {i₃ : ∀ a, o₃ a + S128x512.size a ≤ n₃ a} {i₃' : ∀ a, o₃' a + S128x512.size a ≤ n₃ a}
    (e₁ : o₁ = o₁') (e₂ : o₂ = o₂') (e₃ : o₃ = o₃')
    {hl₁ : M₁.view.LoadsAt (Rect.unit (s := ⟨2, n₁⟩) o₁ S128x512.size i₁).toLoadRect}
    {hl₂ : M₂.view.LoadsAt (Rect.unit (s := ⟨2, n₂⟩) o₂ S128x512.size i₂).toLoadRect}
    {hl₃ : M₃.view.LoadsAt (Rect.unit (s := ⟨2, n₃⟩) o₃ S128x512.size i₃).toLoadRect}
    {hx : (M₃.access (Rect.unit (s := ⟨2, n₃⟩) o₃ S128x512.size i₃)).Stores Finset.univ}
    {hm : (Finset.univ : Finset (Rect.unit (s := ⟨2, n₃⟩) o₃ S128x512.size i₃).shape.Idx) = Finset.univ
      ∨ ∀ a, (Rect.unit (s := ⟨2, n₃⟩) o₃ S128x512.size i₃).stride a = 1}
    {pay : Val128 F → Val128 F → Val128 F} (v₁ v₂ : Val128 F) (hpay : pay v₁ v₂ = sval X j c)
    (h₁ : P₁ = (M₁.slice (Rect.unit (s := ⟨2, n₁⟩) o₁' S128x512.size i₁') (fun _ => rfl) : Blk))
    (h₂ : P₂ = (M₂.slice (Rect.unit (s := ⟨2, n₂⟩) o₂' S128x512.size i₂') (fun _ => rfl) : Blk))
    (hj : srcM j c = (M₃.slice (Rect.unit (s := ⟨2, n₃⟩) o₃' S128x512.size i₃') (fun _ => rfl) : Blk))
    {src dst : Blk} {n : Dev nD} (hn : n = tgt j c) (hs : src = srcM j c) (hd : dst = landM j (tgt j c))
    {hsc : (dst : Memref sig (Dev.tc n : Thread nD τ).2.kind .vmem S128x512 .f32).view.ref.isScScratch = false}
    {hsrc : src.view.WordExact} {hdst : dst.view.WordExact}
    {hsem : DmaTarget.Typed .vmem (.dma (recvS j)) (.remote (Dev.tc n : Thread nD τ) (dst : Memref sig (Dev.tc n : Thread nD τ).2.kind .vmem S128x512 .f32) (.dma (sendS j)) hsc)}
    {α : Type} {Q : α → sProp 𝕄} {k : PUnit → Prog (TpuEff nD τ sig (Elt F) Λ₀ .tc) α} :
    world X K
      ⊢ iprop(holds c P₁ v₁
          -∗ holds c P₂ v₂
          -∗ free (F := F) c (srcM j c)
          -∗ sendRight (F := F) c j -∗ free (F := F) (tgt j c) (landM j (tgt j c)) -∗ owing c (owed c (j :: l))
          -∗ (holds c P₁ v₁
              ∗ holds c P₂ v₂
              ∗ cred (tallyAt (sendCell c j) () N) ∗ owing c (owed c l) -∗ run c (k ⟨⟩) Q)
          -∗ run c (.op (.load M₁ (Rect.unit (s := ⟨2, n₁⟩) o₁ S128x512.size i₁).toLoadRect hl₁) fun a =>
              .op (.load M₂ (Rect.unit (s := ⟨2, n₂⟩) o₂ S128x512.size i₂).toLoadRect hl₂) fun b =>
              .op (.load M₃ (Rect.unit (s := ⟨2, n₃⟩) o₃ S128x512.size i₃).toLoadRect hl₃) fun _ =>
              .op (.store M₃ (Rect.unit (s := ⟨2, n₃⟩) o₃ S128x512.size i₃) (pay a b) Finset.univ hx hm) fun _ =>
              .op (.enqueueDma src (.remote (Dev.tc n : Thread nD τ) (dst : Memref sig (Dev.tc n : Thread nD τ).2.kind .vmem S128x512 .f32) (.dma (sendS j)) hsc) (.dma (recvS j)) hsrc hdst hsem) k) Q) := by
  subst h₁ h₂
  have hF : free (F := F) c (srcM j c) ⊢ free (F := F) c (M₃.slice (Rect.unit (s := ⟨2, n₃⟩) o₃' S128x512.size i₃') (fun _ => rfl) : Blk) := by rw [hj]
  have hH : (holds c (M₃.slice (Rect.unit (s := ⟨2, n₃⟩) o₃' S128x512.size i₃') (fun _ => rfl) : Blk) (pay v₁ v₂) : sProp 𝕄)
      ⊢ holds c (srcM j c) (sval X j c) := by rw [hj, ← hpay]
  iintro #HW H1 H2 H3 Ht Hd HO Hk
  iapply (wp_read c M₁ e₁ v₁) $$ H1
  iintro H1
  iapply (wp_read c M₂ e₂ v₂) $$ H2
  iintro H2
  ihave H3 := hF $$ H3
  iapply (wp_fill c M₃ e₃) $$ H3
  iintro H3
  ihave H3 := hH $$ H3
  iapply (wp_start X K c j l hn hs hd) $$ HW Ht H3 Hd HO
  iintro ⟨Hc, HO⟩
  iapply Hk
  iframe

end Combine

end Cert.AllReduce
-- ==== Proof.Body.lean ====
/-
  The kernel's body on one device, run effect by effect.
-/
module

public import proofs.«01_k».proof.Proof.Rules

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x512 .f32) (K : Dev nD × Fin 25 → ℕ) (c : Dev nD)

/-! ## The blocks, sorted by who keeps them -/

/-- The eight blocks: those given away first, then those kept. -/
abbrev blocks : List (Fin 8) :=
  [aKeep (nx c) 0, aKeep (nx c) 1, bKeep (ny c) 0, bKeep (ny c) 1, aKeep c 0, aKeep c 1, bKeep c 0, bKeep c 1]

theorem blocks_nodup : (blocks c).Nodup := by revert c; decide
theorem blocks_all : Finset.univ = (blocks c).toFinset := by revert c; decide

/-- Anything said of each of the eight blocks, said of them in that order. -/
theorem bigSep_blocks (Φ : Fin 8 → sProp 𝕄) :
    bigSep Finset.univ Φ = iprop(Φ (aKeep (nx c) 0) ∗ Φ (aKeep (nx c) 1) ∗ Φ (bKeep (ny c) 0) ∗ Φ (bKeep (ny c) 1)
      ∗ Φ (aKeep c 0) ∗ Φ (aKeep c 1) ∗ Φ (bKeep c 0) ∗ Φ (bKeep c 1)) :=
  bigSep_univ_eq_bigSepL (blocks c) (blocks_all c) (blocks_nodup c) Φ

theorem bigSep_chunks (Φ : Fin 2 → sProp 𝕄) : bigSep Finset.univ Φ = iprop(Φ 0 ∗ Φ 1) :=
  bigSep_univ_eq_bigSepL ([0, 1] : List (Fin 2)) (by decide) (by decide) Φ

theorem bigSep_xfers (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL ([0, 1, 2, 3, 4, 5, 6, 7, 8, 9, 10, 11] : List (Fin 12)) (by decide) (by decide) Φ

/-- A slice of 128 rows is block `b` when its offset is. -/
theorem slice_row (M : Memref sig .tc .vmem S1024x512 .f32) {b : Fin 8} {off : Fin 2 → ℕ} (ho : off = ![128 * b.val, 0])
    {inb : ∀ a, off a + S128x512.size a ≤ S1024x512.size a} {hr : ∀ a, (Rect.unit (s := S1024x512) off S128x512.size inb).stride a = 1} :
    (M.slice (Rect.unit (s := S1024x512) off S128x512.size inb) hr : Blk) = M.slice (rows b) (fun _ => rfl) := by
  subst ho; rfl

/-- Where the third exchange of the first half lands, on the device it goes to. -/
theorem off5_land (k : Fin 2) : k0_off5 c (rowWord k) = ![128 * (aKeep (nx (nx c)) k).val, 0] := by rw [nx_nx]; exact off5_eq c k
/-- Where the third exchange of the second half lands, on the device it goes to. -/
theorem off6_land (k : Fin 2) : k0_off6 c (rowWord k) = ![128 * (bKeep (ny (ny c)) k).val, 0] := by rw [ny_ny]; exact off6_eq c k

/-- What the first addition of the first half makes of the block at hand and the block that came. -/
theorem pay_firstA (k : Fin 2) : k0_pay1 (xv X c (aKeep c k)) (xv X (nx c) (aKeep (nx (nx c)) k)) = accA X c k := by rw [nx_nx]; rfl
/-- What the first addition of the second half makes of the block at hand and the block that came. -/
theorem pay_firstB (k : Fin 2) : k0_pay2 (xv X c (bKeep c k)) (xv X (ny c) (bKeep (ny (ny c)) k)) = accB X c k := by rw [ny_ny]; rfl

/-- What device `c`'s core holds of its buffers before the body: its own array's blocks at their values, the rest free. -/
def memPre : sProp 𝕄 :=
  iprop(bigSep Finset.univ (fun b => holds c (xB b) (xv X c b)) ∗ bigSep Finset.univ (fun b => free (F := F) c (oB b))
    ∗ bigSep Finset.univ (fun k => free (F := F) c (sA k)) ∗ bigSep Finset.univ (fun k => free (F := F) c (sB k))
    ∗ bigSep Finset.univ (fun k => free (F := F) c (rA1 k)) ∗ bigSep Finset.univ (fun k => free (F := F) c (rB1 k))
    ∗ bigSep Finset.univ (fun k => free (F := F) c (rA2 k)) ∗ bigSep Finset.univ (fun k => free (F := F) c (rB2 k)))

/-- And after: the result's blocks hold the sums. -/
def memPost : sProp 𝕄 :=
  iprop(bigSep Finset.univ (fun b => holds c (xB b) (xv X c b)) ∗ bigSep Finset.univ (fun b => holds c (oB b) (oval X c b))
    ∗ bigSep Finset.univ (fun k => free (F := F) c (sA k)) ∗ bigSep Finset.univ (fun k => free (F := F) c (sB k))
    ∗ bigSep Finset.univ (fun k => free (F := F) c (rA1 k)) ∗ bigSep Finset.univ (fun k => free (F := F) c (rB1 k))
    ∗ bigSep Finset.univ (fun k => free (F := F) c (rA2 k)) ∗ bigSep Finset.univ (fun k => free (F := F) c (rB2 k)))

/-- The rights device `c` starts with. -/
def rights : sProp 𝕄 :=
  iprop(dutyTok ER (barCell (nx c)) 0 true ∗ dutyTok ER (barCell (ny c)) 0 false ∗ atPos ER (barCell c) 0 ∅ 0
    ∗ bigSep Finset.univ (fun j => sendRight (F := F) c j) ∗ bigSep Finset.univ (fun j => sendPos (F := F) c j))

/-- Device `c`'s semaphores, all at zero. -/
def zeros : sProp 𝕄 :=
  iprop(semVal (barCell c) 0 ∗ bigSep Finset.univ (fun j : Fin 12 => iprop(semVal (sendCell c j) 0 ∗ (semVal (recvCell c j) 0 : sProp 𝕄))))

/-! ## The same memory, named by the transfers that move it -/

theorem x_split : bigSep Finset.univ (fun b => holds c (xB b) (xv X c b))
    = (iprop(holds c (srcM 0 c) (sval X 0 c) ∗ holds c (srcM 1 c) (sval X 1 c) ∗ holds c (srcM 2 c) (sval X 2 c) ∗ holds c (srcM 3 c) (sval X 3 c)
      ∗ holds c (xB (aKeep c 0)) (xv X c (aKeep c 0)) ∗ holds c (xB (aKeep c 1)) (xv X c (aKeep c 1))
      ∗ holds c (xB (bKeep c 0)) (xv X c (bKeep c 0)) ∗ holds c (xB (bKeep c 1)) (xv X c (bKeep c 1))) : sProp 𝕄) := bigSep_blocks c _
theorem o_split : bigSep Finset.univ (fun b => free (F := F) c (oB b))
    = iprop(free (F := F) c (landM 8 c) ∗ free (F := F) c (landM 9 c) ∗ free (F := F) c (landM 10 c) ∗ free (F := F) c (landM 11 c)
      ∗ free (F := F) c (srcM 8 c) ∗ free (F := F) c (srcM 9 c) ∗ free (F := F) c (srcM 10 c) ∗ free (F := F) c (srcM 11 c)) := bigSep_blocks c _
theorem sA_split : bigSep Finset.univ (fun k => free (F := F) c (sA k)) = iprop(free (F := F) c (srcM 4 c) ∗ free (F := F) c (srcM 5 c)) := bigSep_chunks _
theorem sB_split : bigSep Finset.univ (fun k => free (F := F) c (sB k)) = iprop(free (F := F) c (srcM 6 c) ∗ free (F := F) c (srcM 7 c)) := bigSep_chunks _
theorem rA1_split : bigSep Finset.univ (fun k => free (F := F) c (rA1 k)) = iprop(free (F := F) c (landM 0 c) ∗ free (F := F) c (landM 1 c)) := bigSep_chunks _
theorem rB1_split : bigSep Finset.univ (fun k => free (F := F) c (rB1 k)) = iprop(free (F := F) c (landM 2 c) ∗ free (F := F) c (landM 3 c)) := bigSep_chunks _
theorem rA2_split : bigSep Finset.univ (fun k => free (F := F) c (rA2 k)) = iprop(free (F := F) c (landM 4 c) ∗ free (F := F) c (landM 5 c)) := bigSep_chunks _
theorem rB2_split : bigSep Finset.univ (fun k => free (F := F) c (rB2 k)) = iprop(free (F := F) c (landM 6 c) ∗ free (F := F) c (landM 7 c)) := bigSep_chunks _

/-- What the result's blocks hold: those given away, the partner's sum; those kept, the device's own. -/
theorem oval_blocks : oval X c (aKeep (nx c) 0) = outA X (nx c) 0 ∧ oval X c (aKeep (nx c) 1) = outA X (nx c) 1
    ∧ oval X c (bKeep (ny c) 0) = outB X (ny c) 0 ∧ oval X c (bKeep (ny c) 1) = outB X (ny c) 1
    ∧ oval X c (aKeep c 0) = outA X c 0 ∧ oval X c (aKeep c 1) = outA X c 1
    ∧ oval X c (bKeep c 0) = outB X c 0 ∧ oval X c (bKeep c 1) = outB X c 1 := by
  have hn := blocks_nodup c
  simp only [blocks, List.nodup_cons, List.mem_cons, List.not_mem_nil, or_false, not_or, List.nodup_nil, and_true] at hn
  obtain ⟨⟨a1, a2, a3, a4, a5, a6, a7⟩, ⟨b2, b3, b4, b5, b6, b7⟩, ⟨c3, c4, c5, c6, c7⟩, ⟨d4, d5, d6, d7⟩, ⟨e5, e6, e7⟩, ⟨f6, f7⟩, g7, -⟩ := hn
  unfold oval
  refine ⟨?_, ?_, ?_, ?_, ?_, ?_, ?_, ?_⟩ <;> simp only [*, Ne.symm, if_true, if_false, ite_true, ite_false] <;> simp_all [eq_comm]

theorem out_join : bigSep Finset.univ (fun b => holds c (oB b) (oval X c b))
    = (iprop(holds c (landM 8 c) (lval X 8 c) ∗ holds c (landM 9 c) (lval X 9 c) ∗ holds c (landM 10 c) (lval X 10 c) ∗ holds c (landM 11 c) (lval X 11 c)
      ∗ holds c (srcM 8 c) (sval X 8 c) ∗ holds c (srcM 9 c) (sval X 9 c) ∗ holds c (srcM 10 c) (sval X 10 c) ∗ holds c (srcM 11 c) (sval X 11 c)) : sProp 𝕄) := by
  obtain ⟨h0, h1, h2, h3, h4, h5, h6, h7⟩ := oval_blocks X c
  rw [bigSep_blocks c, h0, h1, h2, h3, h4, h5, h6, h7]
  rfl

/-- What two blocks hold forgotten. -/
theorem forget (M M' : Blk) (v v' : Val128 F) : iprop(holds c M v ∗ holds c M' v') ⊢ iprop(free (F := F) c M ∗ free (F := F) c M') := by
  unfold free
  iintro ⟨H, H'⟩
  isplitl [H]
  · iexists v; iexact H
  · iexists v'; iexact H'

/-- The places transfers of device `c` land in, at its partner along each way. -/
theorem slotsX_nx : slotsX (F := F) (nx c) ⊢ iprop(free (F := F) (tgt 0 c) (landM 0 (tgt 0 c)) ∗ free (F := F) (tgt 1 c) (landM 1 (tgt 1 c))
    ∗ free (F := F) (tgt 6 c) (landM 6 (tgt 6 c)) ∗ free (F := F) (tgt 7 c) (landM 7 (tgt 7 c))
    ∗ free (F := F) (tgt 8 c) (landM 8 (tgt 8 c)) ∗ free (F := F) (tgt 9 c) (landM 9 (tgt 9 c))) := .rfl
theorem slotsY_ny : slotsY (F := F) (ny c) ⊢ iprop(free (F := F) (tgt 2 c) (landM 2 (tgt 2 c)) ∗ free (F := F) (tgt 3 c) (landM 3 (tgt 3 c))
    ∗ free (F := F) (tgt 4 c) (landM 4 (tgt 4 c)) ∗ free (F := F) (tgt 5 c) (landM 5 (tgt 5 c))
    ∗ free (F := F) (tgt 10 c) (landM 10 (tgt 10 c)) ∗ free (F := F) (tgt 11 c) (landM 11 (tgt 11 c))) := .rfl

set_option maxHeartbeats 1000000 in
theorem run_body (Kt : PUnit → sProp 𝕄) :
    iprop(world X K ∗ rights (F := F) c ∗ bigSep Finset.univ (fun j => recvPos (F := F) c j) ∗ cred (tallyAt (barCell c) () 2)
        ∗ owing c (O₀ c) ∗ memPre X c
        ∗ (owing c 0 ∗ memPost X c ∗ zeros (F := F) c -∗ Kt ⟨⟩))
      ⊢ run c (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [semSignalWord, semWaitWord, Prog.lift, Prog.bind_op, Prog.bind_ret, Prog.pure_eq_ret, Prog.bind_assoc, wp_deviceId]
  simp only [dev1_eq, dev2_eq]
  unfold rights memPre O₀
  rw [x_split X c, o_split c, sA_split c, sB_split c, rA1_split c, rB1_split c, rA2_split c, rB2_split c]
  simp only [bigSep_xfers]
  iintro ⟨#HW, ⟨Htx, Hty, Hbar, HR, HS⟩, HP, Hcb, HO, ⟨Hx, Ho, HsA, HsB, HrA1, HrB1, HrA2, HrB2⟩, Hk⟩
  icases HR with ⟨HR0, HR1, HR2, HR3, HR4, HR5, HR6, HR7, HR8, HR9, HR10, HR11⟩
  icases HS with ⟨HS0, HS1, HS2, HS3, HS4, HS5, HS6, HS7, HS8, HS9, HS10, HS11⟩
  icases HP with ⟨HP0, HP1, HP2, HP3, HP4, HP5, HP6, HP7, HP8, HP9, HP10, HP11⟩
  icases Hx with ⟨HM0, HM1, HM2, HM3, HxA0, HxA1, HxB0, HxB1⟩
  icases Ho with ⟨HoX0, HoX1, HoY0, HoY1, HF8, HF9, HF10, HF11⟩
  icases HsA with ⟨HF4, HF5⟩
  icases HsB with ⟨HF6, HF7⟩
  icases HrA1 with ⟨HrA10, HrA11⟩
  icases HrB1 with ⟨HrB10, HrB11⟩
  icases HrA2 with ⟨HrA20, HrA21⟩
  icases HrB2 with ⟨HrB20, HrB21⟩
  iapply (wp_notify X K c (nx c) true (O₁ c) rfl) $$ HW HO Htx [HrA10 HrA11 HrB20 HrB21 HoX0 HoX1]
  · rw [payload_bar_true, nx_nx]; unfold slotsX; iframe
  iintro HO
  unfold O₁
  iapply (wp_notify X K c (ny c) false (owed c order) rfl) $$ HW HO Hty [HrB10 HrB11 HrA20 HrA21 HoY0 HoY1]
  · rw [payload_bar_false, ny_ny]; unfold slotsY; iframe
  iintro HO
  iapply (wp_barrier X K c order rfl (by decide)) $$ HW Hbar Hcb HO
  iintro ⟨HO, Hzb, HDY, HDX⟩
  ihave HDX := (slotsX_nx (F := F) c) $$ HDX
  ihave HDY := (slotsY_ny (F := F) c) $$ HDY
  icases HDX with ⟨HD0, HD1, HD6, HD7, HD8, HD9⟩
  icases HDY with ⟨HD2, HD3, HD4, HD5, HD10, HD11⟩
  iapply (wp_start X K c 0 [2, 1, 3, 4, 6, 5, 7, 8, 10, 9, 11] (dev3_eq c) (slice_row _ (off1_eq c 0)) rfl) $$ HW HR0 HM0 HD0 HO
  iintro ⟨HC0, HO⟩
  iapply (wp_start X K c 2 [1, 3, 4, 6, 5, 7, 8, 10, 9, 11] (dev4_eq c) (slice_row _ (off2_eq c 0)) rfl) $$ HW HR2 HM2 HD2 HO
  iintro ⟨HC2, HO⟩
  iapply (wp_start X K c 1 [3, 4, 6, 5, 7, 8, 10, 9, 11] (dev5_eq c) (slice_row _ (off1_eq c 1)) rfl) $$ HW HR1 HM1 HD1 HO
  iintro ⟨HC1, HO⟩
  iapply (wp_start X K c 3 [4, 6, 5, 7, 8, 10, 9, 11] (dev6_eq c) (slice_row _ (off2_eq c 1)) rfl) $$ HW HR3 HM3 HD3 HO
  iintro ⟨HC3, HO⟩
  iapply (wp_arrived X K c 0 [4, 6, 5, 7, 8, 10, 9, 11] (Memref.whole cc0_stg0_0) (Memref.whole cc0_scratch2) (fun _ _ _ => rfl) (fun _ _ _ => rfl) (by decide)) $$ HW HS0 HC0 HP0 HO
  iintro ⟨HO, Hz0, HM0, HL0⟩
  iapply (wp_combine X K c 4 [6, 5, 7, 8, 10, 9, 11] (xB (aKeep c 0)) (landM 0 c) _ _ _ (off3_eq c 0) rfl rfl (xv X c (aKeep c 0)) (lval X 0 c) (pay_firstA X c 0) rfl rfl rfl (dev7_eq c) rfl rfl) $$ HW HxA0 HL0 HF4 HR4 HD4 HO
  iintro ⟨HxA0, HL0, HC4, HO⟩
  iapply (wp_arrived X K c 2 [6, 5, 7, 8, 10, 9, 11] (Memref.whole cc0_stg0_0) (Memref.whole cc0_scratch3) (fun _ _ _ => rfl) (fun _ _ _ => rfl) (by decide)) $$ HW HS2 HC2 HP2 HO
  iintro ⟨HO, Hz2, HM2, HL2⟩
  iapply (wp_combine X K c 6 [5, 7, 8, 10, 9, 11] (xB (bKeep c 0)) (landM 2 c) _ _ _ (off4_eq c 0) rfl rfl (xv X c (bKeep c 0)) (lval X 2 c) (pay_firstB X c 0) rfl rfl rfl (dev8_eq c) rfl rfl) $$ HW HxB0 HL2 HF6 HR6 HD6 HO
  iintro ⟨HxB0, HL2, HC6, HO⟩
  iapply (wp_arrived X K c 1 [5, 7, 8, 10, 9, 11] (Memref.whole cc0_stg0_0) (Memref.whole cc0_scratch2) (fun _ _ _ => rfl) (fun _ _ _ => rfl) (by decide)) $$ HW HS1 HC1 HP1 HO
  iintro ⟨HO, Hz1, HM1, HL1⟩
  iapply (wp_combine X K c 5 [7, 8, 10, 9, 11] (xB (aKeep c 1)) (landM 1 c) _ _ _ (off3_eq c 1) rfl rfl (xv X c (aKeep c 1)) (lval X 1 c) (pay_firstA X c 1) rfl rfl rfl (dev9_eq c) rfl rfl) $$ HW HxA1 HL1 HF5 HR5 HD5 HO
  iintro ⟨HxA1, HL1, HC5, HO⟩
  iapply (wp_arrived X K c 3 [7, 8, 10, 9, 11] (Memref.whole cc0_stg0_0) (Memref.whole cc0_scratch3) (fun _ _ _ => rfl) (fun _ _ _ => rfl) (by decide)) $$ HW HS3 HC3 HP3 HO
  iintro ⟨HO, Hz3, HM3, HL3⟩
  iapply (wp_combine X K c 7 [8, 10, 9, 11] (xB (bKeep c 1)) (landM 3 c) _ _ _ (off4_eq c 1) rfl rfl (xv X c (bKeep c 1)) (lval X 3 c) (pay_firstB X c 1) rfl rfl rfl (dev10_eq c) rfl rfl) $$ HW HxB1 HL3 HF7 HR7 HD7 HO
  iintro ⟨HxB1, HL3, HC7, HO⟩
  iapply (wp_arrived X K c 4 [8, 10, 9, 11] (Memref.whole cc0_scratch0) (Memref.whole cc0_scratch4) (fun _ _ _ => rfl) (fun _ _ _ => rfl) (by decide)) $$ HW HS4 HC4 HP4 HO
  iintro ⟨HO, Hz4, HM4, HL4⟩
  iapply (wp_combine X K c 8 [10, 9, 11] (srcM 4 c) (landM 4 c) _ _ _ rfl rfl (off3_eq c 0) (sval X 4 c) (lval X 4 c) rfl rfl rfl rfl (dev11_eq c) (slice_row _ (off5_eq c 0)) (slice_row _ (off5_land c 0))) $$ HW HM4 HL4 HF8 HR8 HD8 HO
  iintro ⟨HM4, HL4, HC8, HO⟩
  iapply (wp_arrived X K c 6 [10, 9, 11] (Memref.whole cc0_scratch1) (Memref.whole cc0_scratch5) (fun _ _ _ => rfl) (fun _ _ _ => rfl) (by decide)) $$ HW HS6 HC6 HP6 HO
  iintro ⟨HO, Hz6, HM6, HL6⟩
  iapply (wp_combine X K c 10 [9, 11] (srcM 6 c) (landM 6 c) _ _ _ rfl rfl (off4_eq c 0) (sval X 6 c) (lval X 6 c) rfl rfl rfl rfl (dev12_eq c) (slice_row _ (off6_eq c 0)) (slice_row _ (off6_land c 0))) $$ HW HM6 HL6 HF10 HR10 HD10 HO
  iintro ⟨HM6, HL6, HC10, HO⟩
  iapply (wp_arrived X K c 5 [9, 11] (Memref.whole cc0_scratch0) (Memref.whole cc0_scratch4) (fun _ _ _ => rfl) (fun _ _ _ => rfl) (by decide)) $$ HW HS5 HC5 HP5 HO
  iintro ⟨HO, Hz5, HM5, HL5⟩
  iapply (wp_combine X K c 9 [11] (srcM 5 c) (landM 5 c) _ _ _ rfl rfl (off3_eq c 1) (sval X 5 c) (lval X 5 c) rfl rfl rfl rfl (dev13_eq c) (slice_row _ (off5_eq c 1)) (slice_row _ (off5_land c 1))) $$ HW HM5 HL5 HF9 HR9 HD9 HO
  iintro ⟨HM5, HL5, HC9, HO⟩
  iapply (wp_arrived X K c 7 [11] (Memref.whole cc0_scratch1) (Memref.whole cc0_scratch5) (fun _ _ _ => rfl) (fun _ _ _ => rfl) (by decide)) $$ HW HS7 HC7 HP7 HO
  iintro ⟨HO, Hz7, HM7, HL7⟩
  iapply (wp_combine X K c 11 [] (srcM 7 c) (landM 7 c) _ _ _ rfl rfl (off4_eq c 1) (sval X 7 c) (lval X 7 c) rfl rfl rfl rfl (dev14_eq c) (slice_row _ (off6_eq c 1)) (slice_row _ (off6_land c 1))) $$ HW HM7 HL7 HF11 HR11 HD11 HO
  iintro ⟨HM7, HL7, HC11, HO⟩
  iapply (wp_arrived X K c 8 [] (Memref.whole cc0_stg1_0) (Memref.whole cc0_stg1_0) (fun _ _ _ => rfl) (fun _ _ _ => rfl) (by decide)) $$ HW HS8 HC8 HP8 HO
  iintro ⟨HO, Hz8, HM8, HL8⟩
  iapply (wp_arrived X K c 10 [] (Memref.whole cc0_stg1_0) (Memref.whole cc0_stg1_0) (fun _ _ _ => rfl) (fun _ _ _ => rfl) (by decide)) $$ HW HS10 HC10 HP10 HO
  iintro ⟨HO, Hz10, HM10, HL10⟩
  iapply (wp_arrived X K c 9 [] (Memref.whole cc0_stg1_0) (Memref.whole cc0_stg1_0) (fun _ _ _ => rfl) (fun _ _ _ => rfl) (by decide)) $$ HW HS9 HC9 HP9 HO
  iintro ⟨HO, Hz9, HM9, HL9⟩
  iapply (wp_arrived X K c 11 [] (Memref.whole cc0_stg1_0) (Memref.whole cc0_stg1_0) (fun _ _ _ => rfl) (fun _ _ _ => rfl) (by decide)) $$ HW HS11 HC11 HP11 HO
  iintro ⟨HO, Hz11, HM11, HL11⟩

  unfold run; rw [wp_ret]
  imodintro
  iapply Hk
  isplitl [HO]; · iexact HO
  unfold memPost zeros
  rw [x_split X c, out_join X c, sA_split c, sB_split c, rA1_split c, rB1_split c, rA2_split c, rB2_split c]
  simp only [bigSep_xfers]
  isplitr [Hzb Hz0 Hz1 Hz2 Hz3 Hz4 Hz5 Hz6 Hz7 Hz8 Hz9 Hz10 Hz11]
  · isplitl [HM0 HM1 HM2 HM3 HxA0 HxA1 HxB0 HxB1]; · iframe
    isplitl [HL8 HL9 HL10 HL11 HM8 HM9 HM10 HM11]; · iframe
    isplitl [HM4 HM5]; · iapply (forget c _ _ _ _) $$ [HM4 HM5]; iframe
    isplitl [HM6 HM7]; · iapply (forget c _ _ _ _) $$ [HM6 HM7]; iframe
    isplitl [HL0 HL1]; · iapply (forget c _ _ _ _) $$ [HL0 HL1]; iframe
    isplitl [HL2 HL3]; · iapply (forget c _ _ _ _) $$ [HL2 HL3]; iframe
    isplitl [HL4 HL5]; · iapply (forget c _ _ _ _) $$ [HL4 HL5]; iframe
    iapply (forget c _ _ _ _) $$ [HL6 HL7]; iframe
  iframe

end Cert.AllReduce
-- ==== Proof.Memory.lean ====
/-
  A device's buffers, whole and in blocks: the operand's and the result's copies are eight blocks of 128 rows each, a scratch buffer
  two chunks of 128 rows.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Every element type has a value. -/
instance elt_nonempty (e : EltTy) : Nonempty (Elt F e) := by
  cases e <;> first | exact ⟨(0 : BitVec _)⟩ | exact ⟨FloatOps.ofBits _ 0⟩

variable (c : Dev nD)

/-- What 128 rows hold, forgotten. -/
theorem holds_free (M : Blk) (v : Val128 F) : holds c M v ⊢ free (F := F) c M := by
  unfold free
  iintro H
  iexists v; iexact H

/-! ## Arrays of 1024 rows -/

section Rows
variable (M : Memref sig .tc .vmem S1024x512 .f32) (v : Vec F S1024x512 .f32)

/-- An array of 1024 rows holds `v` exactly when its blocks hold `v`'s blocks. -/
theorem rows_split : (owns (c : Thread nD τ) M fullShare v : sProp 𝕄)
    ⊢ bigSep Finset.univ (fun b => holds c (M.slice (rows b) (fun _ => rfl)) (fun i => v ((rows b).emb i))) :=
  owns_rects (c : Thread nD τ) M fullShare rows (fun _ _ => rfl) rows_disjoint rows_cover v
theorem rows_join : bigSep Finset.univ (fun b => holds c (M.slice (rows b) (fun _ => rfl)) (fun i => v ((rows b).emb i)))
    ⊢ (owns (c : Thread nD τ) M fullShare v : sProp 𝕄) :=
  owns_of_rects (c : Thread nD τ) M fullShare rows (fun _ _ => rfl) rows_disjoint rows_cover v
/-- Its blocks can be written to. -/
theorem rows_free : (owns (c : Thread nD τ) M fullShare v : sProp 𝕄)
    ⊢ bigSep Finset.univ (fun b => free (F := F) c (M.slice (rows b) (fun _ => rfl))) :=
  (rows_split c M v).trans (bigSep_mono fun b _ => holds_free c _ _)

end Rows

/-! ## Scratch buffers -/

section Chunks
variable (M : Memref sig .tc .vmem S256x512 .f32)

/-- The scratch contents whose chunks are `w 0` and `w 1`. -/
def glue (w : Fin 2 → Val128 F) : Vec F S256x512 .f32 := fun i =>
  w ⟨(i 0).val / 128, by have : (i 0).val < 256 := (i 0).isLt; omega⟩ fun a =>
    match a with
    | ⟨0, _⟩ => ⟨(i 0).val % 128, Nat.mod_lt _ (by decide)⟩
    | ⟨1, _⟩ => ⟨(i 1).val, (i 1).isLt⟩

theorem glue_chunk (w : Fin 2 → Val128 F) (k : Fin 2) : (fun j => glue w ((chunk k).emb j)) = w k := by
  funext j
  have h0 : (j 0).val < 128 := (j 0).isLt
  have e0 : (((chunk k).emb j) 0).val = 128 * k.val + (j 0).val := by rw [Rect.emb_apply]; simp
  have e1 : (((chunk k).emb j) 1).val = (j 1).val := by rw [Rect.emb_apply]; simp
  unfold glue
  congr 1
  · exact Fin.ext (by show (((chunk k).emb j) 0).val / 128 = k.val; rw [e0]; omega)
  · funext a
    match a with
    | ⟨0, _⟩ => apply Fin.ext; show (((chunk k).emb j) 0).val % 128 = (j 0).val; rw [e0]; omega
    | ⟨1, _⟩ => exact Fin.ext e1

/-- A scratch buffer, whatever it holds, is its two chunks, whatever they hold. -/
theorem chunks_free : iprop(∃ v, (owns (c : Thread nD τ) M fullShare v : sProp 𝕄))
    ⊢ bigSep Finset.univ (fun k => free (F := F) c (M.slice (chunk k) (fun _ => rfl))) := by
  iintro ⟨%v, H⟩
  iapply ((owns_rects (c : Thread nD τ) M fullShare chunk (fun _ _ => rfl) chunk_disjoint chunk_cover v).trans
    (bigSep_mono fun k _ => holds_free c _ _))
  iexact H
theorem chunks_join : bigSep Finset.univ (fun k => free (F := F) c (M.slice (chunk k) (fun _ => rfl)))
    ⊢ iprop(∃ v, (owns (c : Thread nD τ) M fullShare v : sProp 𝕄)) := by
  haveI : Nonempty (Val128 F) := ⟨fun _ => Classical.choice (elt_nonempty .f32)⟩
  unfold free
  iintro H
  ihave H := (BI.bigSep_exists_pi Finset.univ (fun (k : Fin 2) (w : Val128 F) => holds c (M.slice (chunk k) (fun _ => rfl)) w)) $$ H
  icases H with ⟨%w, H⟩
  iexists (glue w)
  iapply (owns_of_rects (c : Thread nD τ) M fullShare chunk (fun _ _ => rfl) chunk_disjoint chunk_cover (glue w))
  simp only [glue_chunk]
  iexact H

end Chunks

/-- The chunks of device `c`'s six scratch buffers, whatever they hold. -/
def scratch : sProp 𝕄 :=
  iprop(bigSep Finset.univ (fun k => free (F := F) c (sA k)) ∗ bigSep Finset.univ (fun k => free (F := F) c (sB k))
    ∗ bigSep Finset.univ (fun k => free (F := F) c (rA1 k)) ∗ bigSep Finset.univ (fun k => free (F := F) c (rB1 k))
    ∗ bigSep Finset.univ (fun k => free (F := F) c (rA2 k)) ∗ bigSep Finset.univ (fun k => free (F := F) c (rB2 k)))

/-- Owning a whole buffer at given contents, or at some contents, is owning its elements. -/
theorem owns_whole (b : Ref sig .tc) (v : b.ty.Contents (Elt F)) :
    (owns (c : Thread nD τ) (Memref.whole b) fullShare v : sProp 𝕄)
      = iprop(∃ f : Buf (Elt F) ((c : Thread nD τ).loc b), ⌜f = v⌝ ∗ ((c : Thread nD τ).loc b ↦{fullShare} f)) := by
  unfold owns; simp only [Memref.view_whole, View.read_whole, View.set_whole]

theorem whole_some (b : Ref sig .tc) :
    iprop(∃ f : Buf (Elt F) ((c : Thread nD τ).loc b), ((c : Thread nD τ).loc b ↦{fullShare} f : sProp 𝕄))
      ⊢ iprop(∃ v, (owns (c : Thread nD τ) (Memref.whole b) fullShare v : sProp 𝕄)) := by
  iintro ⟨%f, H⟩
  iexists f
  rw [owns_whole]
  iexists f; isplitr; · ipureintro; rfl
  iexact H
theorem some_whole (b : Ref sig .tc) :
    iprop(∃ v, (owns (c : Thread nD τ) (Memref.whole b) fullShare v : sProp 𝕄))
      ⊢ iprop(∃ f : Buf (Elt F) ((c : Thread nD τ).loc b), ((c : Thread nD τ).loc b ↦{fullShare} f : sProp 𝕄)) := by
  simp only [owns_whole]
  iintro ⟨%v, %f, %h, H⟩
  iexists f; iexact H

/-- The six scratch buffers at the launch are their chunks, -/
theorem scratch_of : (Pipeline.scopedRest cfg0.spec c : sProp 𝕄) ⊢ scratch (F := F) c := by
  rw [scopedRest0_eq]
  unfold scratch
  exact BIClass.sep_mono ((whole_some c _).trans (chunks_free c _)) (BIClass.sep_mono ((whole_some c _).trans (chunks_free c _)) (BIClass.sep_mono ((whole_some c _).trans (chunks_free c _))
    (BIClass.sep_mono ((whole_some c _).trans (chunks_free c _)) (BIClass.sep_mono ((whole_some c _).trans (chunks_free c _)) ((whole_some c _).trans (chunks_free c _))))))
/-- and back. -/
theorem of_scratch : scratch (F := F) c ⊢ (Pipeline.scopedRest cfg0.spec c : sProp 𝕄) := by
  rw [scopedRest0_eq]
  unfold scratch
  exact BIClass.sep_mono ((chunks_join c _).trans (some_whole c cc0_scratch0)) (BIClass.sep_mono ((chunks_join c _).trans (some_whole c cc0_scratch1)) (BIClass.sep_mono ((chunks_join c _).trans (some_whole c cc0_scratch2))
    (BIClass.sep_mono ((chunks_join c _).trans (some_whole c cc0_scratch3)) (BIClass.sep_mono ((chunks_join c _).trans (some_whole c cc0_scratch4)) ((chunks_join c _).trans (some_whole c cc0_scratch5))))))

variable (X : Dev nD → Vec F S1024x512 .f32)

/-- The operand at `X c`, the result at anything and the scratch buffers are what the body starts from, -/
theorem memPre_of (v : Vec F S1024x512 .f32) :
    iprop(owns (c : Thread nD τ) (Memref.whole cc0_stg0_0) fullShare (X c) ∗ owns (c : Thread nD τ) (Memref.whole cc0_stg1_0) fullShare v
      ∗ scratch (F := F) c) ⊢ memPre X c :=
  BIClass.sep_mono (rows_split c (Memref.whole cc0_stg0_0) (X c)) (BIClass.sep_mono (rows_free c (Memref.whole cc0_stg1_0) v) .rfl)
/-- and what it ends with is the operand at `X c`, the result at the sums and the scratch buffers. -/
theorem of_memPost :
    memPost X c ⊢ iprop(owns (c : Thread nD τ) (Memref.whole cc0_stg0_0) fullShare (X c)
      ∗ owns (c : Thread nD τ) (Memref.whole cc0_stg1_0) fullShare (outAt X c) ∗ scratch (F := F) c) :=
  BIClass.sep_mono (rows_join c (Memref.whole cc0_stg0_0) (X c))
    (BIClass.sep_mono ((bigSep_mono fun b _ => Entails.of_eq (congrArg (holds c (oB b)) (outAt_block X c b).symm)).trans (rows_join c (Memref.whole cc0_stg1_0) (outAt X c))) .rfl)

end Cert.AllReduce
-- ==== Proof.Launch.lean ====
/-
  The launch of the protocol: from the launch's counters at zero and its ghost state, each device's semaphores are opened, and each
  device is dealt the rights it exercises and the credit it will be paid.
-/
module

public import proofs.«01_k».proof.Proof.Memory

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's semaphores -/

abbrev osem : Fin 24 → SemLoc sig := fun i => .dma (ownS i)

theorem ownSemFacts : Pipeline.OwnSemFacts cfg0.spec osem := by decide

theorem ownS_recv (j : Fin 12) : ownS (Fin.natAdd 12 j : Fin 24) = recvS j := Fin.ext (by show 2 + (12 + j.val) = 14 + j.val; omega)

/-- Anything said of the kernel's own semaphores, said of the send and of the receive semaphores. -/
theorem bigSep_own (c : Dev nD) (Φ : GSem nD τ sig → sProp 𝕄) :
    bigSep Finset.univ (fun i : Fin 24 => Φ ((c : Thread nD τ), osem i))
      = iprop(bigSep Finset.univ (fun j => Φ (sendCell c j)) ∗ bigSep Finset.univ (fun j => Φ (recvCell c j))) := by
  rw [bigSep_univ_equiv (finSumFinEquiv : Fin 12 ⊕ Fin 12 ≃ Fin 24), bigSep_univ_sum]
  refine congrArg _ (bigSep_congr fun j _ => ?_)
  show Φ ((c : Thread nD τ), .dma (ownS (Fin.natAdd 12 j : Fin 24))) = _
  rw [ownS_recv j]

/-- And said of all those the protocol uses. -/
theorem bigSep_cells (c : Dev nD) (Φ : GSem nD τ sig → sProp 𝕄) :
    bigSep Finset.univ (fun k : Fin 25 => Φ (kcell (c, k)))
      = iprop(Φ (barCell c) ∗ bigSep Finset.univ (fun j => Φ (sendCell c j)) ∗ bigSep Finset.univ (fun j => Φ (recvCell c j))) := by
  rw [← bigSep_own, Fin.univ_succ, Finset.cons_eq_insert, bigSep_insert (by simp), bigSep_map]
  rfl

theorem ownSems0_eq (c : Dev nD) : (Pipeline.ownSems0 (Ix := Unit) (Name := ℕ) (U := UU) (Lvl := ℕ) (Val := Elt F) (τ := τ) osem c : sProp 𝕄)
    = iprop(bigSep Finset.univ (fun j => semVal (sendCell c j) 0) ∗ bigSep Finset.univ (fun j => semVal (recvCell c j) 0)) := by
  unfold Pipeline.ownSems0; exact bigSep_own c fun g => semVal g 0

theorem unscopedSems0_eq (c : Dev nD) : (unscopedSems0 c : sProp 𝕄) = semVal (barCell c) 0 := by
  unfold unscopedSems0; rw [bigSep_eq_bigSepL_of_eq [SemLoc.reg barS] (by decide) (by decide)]; rfl

theorem csem_injective : Function.Injective csem := by
  intro k k'
  refine Fin.cases ?_ (fun i => ?_) k <;> refine Fin.cases ?_ (fun i' => ?_) k'
  · exact fun _ => rfl
  · exact fun h => nomatch h
  · exact fun h => nomatch h
  · intro h
    have h1 : ownS i = ownS i' := SemLoc.dma.inj h
    have h2 := congrArg Fin.val h1
    exact congrArg Fin.succ (Fin.ext (by simpa using h2))

theorem kcell_injective : Function.Injective (kcell : Dev nD × Fin 25 → GSem nD τ sig) := by
  rintro ⟨c, k⟩ ⟨c', k'⟩ h
  have hc : c = c' := congrArg (fun g : GSem nD τ sig => g.1.1) h
  have hk : k = k' := csem_injective (congrArg Prod.snd h)
  rw [hc, hk]

/-! ## The tokens -/

/-- The duties of device `c`'s semaphores: the barrier's two, and one of each of its own. -/
def tokOf (x : Dev nD × (Bool ⊕ Fin 24)) : GSem nD τ sig × ℕ × Bool :=
  match x.2 with
  | .inl d => (barCell x.1, 0, d)
  | .inr i => (((x.1 : Thread nD τ), osem i), 0, false)

theorem tokOf_injective : Function.Injective tokOf := by
  rintro ⟨c, x⟩ ⟨c', x'⟩ h
  have hc : c = c' := by
    rcases x with d | i <;> rcases x' with d' | i' <;> exact congrArg (fun y : GSem nD τ sig × ℕ × Bool => y.1.1.1) h
  have hs := congrArg (fun y : GSem nD τ sig × ℕ × Bool => y.1.2) h
  have hd := congrArg (fun y : GSem nD τ sig × ℕ × Bool => y.2.2) h
  subst hc
  rcases x with d | i <;> rcases x' with d' | i'
  · exact congrArg (fun d => (c, Sum.inl d)) hd
  · exact nomatch hs
  · exact nomatch hs
  · have h2 := congrArg Fin.val (SemLoc.dma.inj hs)
    exact congrArg (fun i => (c, Sum.inr i)) (Fin.ext (by simpa using h2))

def theCells : Finset (GSem nD τ sig) := Finset.univ.map ⟨kcell, kcell_injective⟩
def theToks : Finset (GSem nD τ sig × ℕ × Bool) := Finset.univ.map ⟨tokOf, tokOf_injective⟩

/-- The ghost state of the launch: the pipeline's, and the protocol's. -/
def u₀ : UU := (initOf (Pipeline.cells cfgs cellOf_inj) (Pipeline.launchToks cfgs cellOf_inj), initOf theCells theToks)

/-- The tokens of device `c`'s own semaphores. -/
def toks (c : Dev nD) : sProp 𝕄 :=
  iprop((dutyTok ER (barCell c) 0 true ∗ dutyTok ER (barCell c) 0 false)
    ∗ bigSep Finset.univ (fun j => dutyTok ER (sendCell c j) 0 false) ∗ bigSep Finset.univ (fun j => dutyTok ER (recvCell c j) 0 false))

/-- The tokens of the duties device `c` pays. -/
def paid (c : Dev nD) : sProp 𝕄 :=
  iprop((dutyTok ER (barCell (nx c)) 0 true ∗ dutyTok ER (barCell (ny c)) 0 false) ∗ bigSep Finset.univ (fun j => sendRight (F := F) c j))

abbrev flipX : Dev nD ≃ Dev nD := ⟨nx, nx, nx_nx, nx_nx⟩
abbrev flipY : Dev nD ≃ Dev nD := ⟨ny, ny, ny_ny, ny_ny⟩
abbrev flip (j : Fin 12) : Dev nD ≃ Dev nD := ⟨tgt j, tgt j, tgt_tgt j, tgt_tgt j⟩

/-- The receive semaphores' tokens, dealt to the devices whose transfers pay them. -/
theorem recvToks_around (Φ : Dev nD → Fin 12 → sProp 𝕄) :
    bigSep Finset.univ (fun c => bigSep Finset.univ fun j => Φ c j) = bigSep Finset.univ fun c => bigSep Finset.univ fun j => Φ (tgt j c) j := by
  rw [bigSep_univ_comm, bigSep_univ_comm (fun c j => Φ (tgt j c) j)]
  exact bigSep_congr fun j _ => bigSep_univ_equiv (flip j) fun c => Φ c j

/-- Every token goes to the device that pays the duty. -/
theorem toks_around : bigSep Finset.univ (toks (F := F)) ⊢ bigSep Finset.univ (paid (F := F)) := by
  unfold toks paid sendRight
  simp only [bigSep_sep']
  rw [bigSep_univ_equiv flipX (fun c : Dev nD => (dutyTok ER (barCell c) 0 true : sProp 𝕄)),
    bigSep_univ_equiv flipY (fun c : Dev nD => (dutyTok ER (barCell c) 0 false : sProp 𝕄)),
    recvToks_around (fun c j => (dutyTok ER (recvCell c j) 0 false : sProp 𝕄))]
  exact .rfl

/-! ## The semaphores opened -/

variable (X : Dev nD → Vec F S1024x512 .f32)

/-- What the launch's ghost state deals device `c`. -/
def dealt (c : Dev nD) : sProp 𝕄 :=
  iprop((bigSep Finset.univ fun k : Fin 25 => roundState ER (sched (F := F) X) (kcell (c, k)) 0)
    ∗ ((bigSep Finset.univ fun k : Fin 25 => atPos ER (kcell (c, k)) 0 ∅ 0) ∗ (bigSep Finset.univ fun k : Fin 25 => reached ER (kcell (c, k)) 0))
    ∗ toks (F := F) c)

/-- That each semaphore is governed by the schedule. -/
def known (K : Dev nD × Fin 25 → ℕ) : sProp 𝕄 :=
  bigSep Finset.univ (fun ck : Dev nD × Fin 25 => iprop(cellInv ER (sched (F := F) X) (K ck) (kcell ck) ∗ reached ER (kcell ck) 0))

instance known_persistent (K : Dev nD × Fin 25 → ℕ) : BI.Persistent (known (F := F) X K) := by unfold known; infer_instance

/-- The rights of device `c`, with the positions of its receive semaphores. -/
def linear (c : Dev nD) : sProp 𝕄 := iprop(rights (F := F) c ∗ bigSep Finset.univ (fun j => atPos ER (recvCell c j) 0 ∅ 0))

/-- What device `c` has once every semaphore is opened. -/
def opened (c : Dev nD) : sProp 𝕄 := iprop(∃ K, known X K ∗ linear (F := F) c)

theorem fund_protocol : BI.own (ER (initOf theCells theToks)) ⊢ (|==> bigSep Finset.univ (dealt X) : sProp 𝕄) := by
  have hX (Φ : GSem nD τ sig → sProp 𝕄) : bigSep theCells Φ = bigSep Finset.univ fun c : Dev nD => bigSep Finset.univ fun k : Fin 25 => Φ (kcell (c, k)) := by
    unfold theCells; rw [bigSep_map, bigSep_univ_prod]; rfl
  have hT : bigSep theToks (fun x => (dutyTok ER x.1 x.2.1 x.2.2 : sProp 𝕄)) = bigSep Finset.univ (toks (F := F)) := by
    unfold theToks; rw [bigSep_map, bigSep_univ_prod]
    refine bigSep_congr fun c _ => ?_
    rw [bigSep_univ_sum, bigSep_univ_eq_bigSepL [true, false] (by decide) (by decide)]
    unfold toks
    rw [← bigSep_own c fun g => dutyTok ER g 0 false]
    rfl
  iintro HX
  imod (Rounds.fund ER (sched (F := F) X) theCells theToks) $$ HX with ⟨Hst, Hr, Hat, Htok⟩
  imodintro
  ihave Hst' := (Entails.of_eq (hX fun g => roundState ER (sched (F := F) X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  iframe

/-- One device's semaphores, all at zero, opened. -/
theorem core_open (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (sched (F := F) X) κ (kcell (c, k))))
          ∗ ((bigSep Finset.univ fun k : Fin 25 => atPos ER (kcell (c, k)) 0 ∅ 0) ∗ (bigSep Finset.univ fun k : Fin 25 => reached ER (kcell (c, k)) 0))
          ∗ toks (F := F) c) := by
  have hz : iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
    rw [ownSems0_eq, unscopedSems0_eq, bigSep_cells c fun g => semVal g 0]
    iintro ⟨⟨HS, HV⟩, HB⟩
    iframe
  have hi : iprop((bigSep Finset.univ fun k : Fin 25 => semVal (kcell (c, k)) 0) ∗ bigSep Finset.univ fun k : Fin 25 => roundState ER (sched (F := F) X) (kcell (c, k)) 0)
      ⊢ (|={Set.univ}=> bigSep Finset.univ fun k => iprop(∃ κ : ℕ, cellInv ER (sched (F := F) X) κ (kcell (c, k))) : sProp 𝕄) := by
    rw [← bigSep_sep']
    exact (bigSep_mono fun k _ => (Rounds.body_intro ER (sched (F := F) X) (kcell (c, k))).trans inv_alloc).trans (bigSep_fupd _ _)
  unfold dealt
  iintro ⟨Hos, Hus, Hst, Hat, Htok⟩
  ihave Hv := hz $$ [Hos Hus]
  · iframe
  imod hi $$ [Hv Hst] with Hinv
  · iframe
  imodintro
  iframe

theorem linear_of (c : Dev nD) : iprop((bigSep Finset.univ fun k : Fin 25 => atPos ER (kcell (c, k)) 0 ∅ 0) ∗ paid c) ⊢ linear (F := F) c := by
  rw [bigSep_cells c fun g => atPos ER g 0 ∅ 0]
  unfold linear rights paid sendPos
  iintro ⟨⟨HB, HS, HV⟩, ⟨HX, HY⟩, HJ⟩
  iframe

theorem regroup :
    (bigSep Finset.univ fun c : Dev nD => iprop((bigSep Finset.univ fun k => iprop(∃ κ : ℕ, cellInv ER (sched (F := F) X) κ (kcell (c, k))))
          ∗ ((bigSep Finset.univ fun k : Fin 25 => atPos ER (kcell (c, k)) 0 ∅ 0) ∗ (bigSep Finset.univ fun k : Fin 25 => reached ER (kcell (c, k)) 0))
          ∗ toks (F := F) c) : sProp 𝕄)
      ⊢ bigSep Finset.univ (opened X) := by
  rw [bigSep_sep', bigSep_sep', bigSep_sep', ← bigSep_univ_prod (fun ck : Dev nD × Fin 25 => iprop(∃ κ : ℕ, cellInv ER (sched (F := F) X) κ (kcell ck))),
    ← bigSep_univ_prod (fun ck : Dev nD × Fin 25 => (reached ER (kcell ck) 0 : sProp 𝕄))]
  have hl : iprop((bigSep Finset.univ fun c : Dev nD => bigSep Finset.univ fun k : Fin 25 => atPos ER (kcell (c, k)) 0 ∅ 0) ∗ bigSep Finset.univ (paid (F := F)))
      ⊢ bigSep Finset.univ (linear (F := F)) := by
    rw [← bigSep_sep']; exact bigSep_mono fun c _ => linear_of c
  iintro ⟨HI, ⟨Hat, #HR⟩, Htok⟩
  ihave HK := (BI.bigSep_exists_pi Finset.univ (fun (ck : Dev nD × Fin 25) (κ : ℕ) => (cellInv ER (sched (F := F) X) κ (kcell ck) : sProp 𝕄))) $$ HI
  icases HK with ⟨%K, #HI⟩
  ihave Htk := (toks_around (F := F)) $$ Htok
  ihave Hl := hl $$ [Hat Htk]
  · iframe
  iapply (bigSep_with_persistent (R := known X K) (Φ := linear (F := F)) fun c _ => by
    unfold opened; iintro ⟨#H, Hl⟩; iexists K; isplitr; · iexact H
    iexact Hl)
  isplitr [Hl]
  · unfold known; rw [bigSep_sep']
    isplitr; · iexact HI
    iexact HR
  · iexact Hl

/-- All devices' semaphores opened at once. -/
theorem open_all :
    (bigSep Finset.univ fun c => iprop(Pipeline.ownSems0 (Ix := Unit) (Name := ℕ) (U := UU) (Lvl := ℕ) (Val := Elt F) (τ := τ) osem c ∗ unscopedSems0 c ∗ dealt X c) : sProp 𝕄)
      ⊢ |={Set.univ}=> bigSep Finset.univ (opened X) :=
  ((bigSep_mono fun c _ => core_open X c).trans (bigSep_fupd _ _)).trans (BI.fupd_mono (regroup X))

/-! ## The credit of the launch -/

theorem recv_eq_iff {a b : Dev nD} {i j : Fin 12} : recvCell a i = recvCell b j ↔ a = b ∧ i = j := by
  constructor
  · intro h
    have h1 : a = b := congrArg (fun g : GSem nD τ sig => g.1.1) h
    have h2 := congrArg Fin.val (SemLoc.dma.inj (congrArg Prod.snd h))
    exact ⟨h1, Fin.ext (by simpa using h2)⟩
  · rintro ⟨rfl, rfl⟩; rfl

theorem bar_eq_iff {a b : Dev nD} : barCell a = barCell b ↔ a = b :=
  ⟨fun h => congrArg (fun g : GSem nD τ sig => g.1.1) h, fun h => h ▸ rfl⟩

theorem recv_ne_bar {a b : Dev nD} {j : Fin 12} : recvCell a j ≠ barCell b := fun h => nomatch congrArg Prod.snd h

/-- What device `d` owes a receive semaphore of device `c`. -/
theorem owed_recv (d c : Dev nD) (j : Fin 12) (l : List (Fin 12)) :
    owed d l (recvCell c j) () = l.count j * if d = tgt j c then N else 0 := by
  induction l with
  | nil => simp [owed]
  | cons i l ih =>
    rw [owed, Pi.add_apply, Finsupp.add_apply, ih, tallyAt_apply, List.count_cons, Nat.add_mul]
    congr 1
    by_cases hi : i = j
    · subst hi
      by_cases hd : d = tgt i c
      · subst hd; rw [tgt_tgt]; simp
      · rw [if_neg (fun h => hd (by rw [(recv_eq_iff.mp h.1).1, tgt_tgt])), if_neg hd, Nat.mul_zero]
    · rw [if_neg (fun h => hi (recv_eq_iff.mp h.1).2.symm)]; simp [hi]

/-- It owes a barrier semaphore nothing by its transfers, -/
theorem owed_bar (d c : Dev nD) (l : List (Fin 12)) : owed d l (barCell c) () = 0 := by
  induction l with
  | nil => rfl
  | cons i l ih => rw [owed, Pi.add_apply, Finsupp.add_apply, ih, tallyAt_ne_cell recv_ne_bar.symm]; rfl

/-- and one unit by its signal to each partner. -/
theorem O₀_bar (d c : Dev nD) : O₀ d (barCell c) () = (if d = ny c then 1 else 0) + if d = nx c then 1 else 0 := by
  unfold O₀ O₁
  rw [Pi.add_apply, Finsupp.add_apply, Pi.add_apply, Finsupp.add_apply, owed_bar, Nat.zero_add, tallyAt_apply, tallyAt_apply]
  have hy : barCell c = barCell (ny d) ↔ d = ny c :=
    ⟨fun h => by rw [bar_eq_iff.mp h, ny_ny], fun h => by rw [h, ny_ny]⟩
  have hx : barCell c = barCell (nx d) ↔ d = nx c :=
    ⟨fun h => by rw [bar_eq_iff.mp h, nx_nx], fun h => by rw [h, nx_nx]⟩
  simp only [hx, hy, and_true]

theorem order_count (j : Fin 12) : order.count j = 1 := by revert j; decide

theorem O₀_recv (d c : Dev nD) (j : Fin 12) : O₀ d (recvCell c j) () = if d = tgt j c then N else 0 := by
  unfold O₀ O₁
  rw [Pi.add_apply, Finsupp.add_apply, Pi.add_apply, Finsupp.add_apply, owed_recv, order_count, Nat.one_mul,
    tallyAt_ne_cell recv_ne_bar, tallyAt_ne_cell recv_ne_bar]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (ny c) fun _ => 1, Finset.sum_ite_eq' Finset.univ (nx c) fun _ => 1, if_pos (Finset.mem_univ _), if_pos (Finset.mem_univ _)]

theorem launch_recv (c : Dev nD) (j : Fin 12) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => O₀_recv d c j, Finset.sum_ite_eq' Finset.univ (tgt j c) fun _ => N,
    if_pos (Finset.mem_univ _)]

/-- The credit device `c` will be paid: two units of its barrier, and each transfer that comes to it. -/
theorem creds (c : Dev nD) : (Pipeline.launchCred O₀ c : sProp 𝕄)
    ⊢ iprop(cred (tallyAt (barCell c) () 2) ∗ bigSep Finset.univ (fun j => cred (tallyAt (recvCell c j) () N))) := by
  have hinj : Function.Injective (fun j : Fin 12 => (SemLoc.dma (recvS j) : SemLoc sig)) :=
    fun i j h => (recv_eq_iff (a := c) (b := c).mp (congrArg (fun s => ((c : Thread nD τ), s)) h)).2
  unfold Pipeline.launchCred
  rw [bigSep_univ_at _ (SemLoc.reg barS), launch_bar]
  refine sep_mono_right ((bigSep_subset (t := Finset.univ.map ⟨_, hinj⟩) fun s hs => ?_).trans ?_)
  · obtain ⟨j, -, rfl⟩ := Finset.mem_map.mp hs
    exact Finset.mem_erase.mpr ⟨fun h => (nomatch h), Finset.mem_univ _⟩
  · rw [bigSep_map]
    exact bigSep_mono fun j _ => Entails.of_eq (congrArg cred (launch_recv c j))

end Cert.AllReduce
-- ==== Proof.Run.lean ====
/-
  The program's run: every execution ends, with each device's result at the sums of the blocks, its operand as it was and every
  semaphore at zero.
-/
module

public import proofs.«01_k».proof.Proof.Launch
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at the start: memory `m`, every semaphore at zero. -/
def s₀ : MemSt nD τ sig (Elt F) := ⟨m, fun _ => 0, ρ⟩

/-- Device `c`'s operand, as the kernel is given it. -/
def operand (c : Dev nD) : Vec F S1024x512 .f32 :=
  (win0_0.blk (0 : Fin 1)).view.read (Elt F) ((s₀ m ρ).mem ((c : Thread nD τ).loc main_arg0))

/-! ## The kernel's body, as the launch runs it -/

/-- What device `c`'s body starts from, besides its buffers. -/
def start (c : Dev nD) : sProp 𝕄 :=
  iprop(opened (operand m ρ) c ∗ (cred (tallyAt (barCell c) () 2) ∗ bigSep Finset.univ (fun j => cred (tallyAt (recvCell c j) () N))) ∗ levAts L lv)
/-- The invariant before the body, -/
def Φ₀ (c : Dev nD) : sProp 𝕄 := iprop(start m ρ c ∗ scratch (F := F) c)
/-- and after it. -/
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => operand m ρ c
    | ⟨1, _⟩ => outAt (operand m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The kernel has one step. -/
abbrev step : Fin cfg0.N := ⟨0, by decide⟩
theorem step_eq (t : Fin cfg0.N) : t = step := by
  have h : cfg0.N = 1 := by decide
  exact Fin.ext (by have := t.isLt; omega)

theorem fetch_0 : (cfg0.win (0 : Fin 2)).fetch step = true := rfl

/-- The body, from its buffers whole to its buffers whole. -/
theorem run_step (c : Dev nD) (v : Vec F S1024x512 .f32) :
    iprop(Φ₀ m ρ c ∗ (dats m ρ 0 c).owesAt () step.castSucc
        ∗ owns (c : Thread nD τ) (Memref.whole cc0_stg0_0) fullShare (operand m ρ c) ∗ owns (c : Thread nD τ) (Memref.whole cc0_stg1_0) fullShare v)
      ⊢ run c (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7)
        (fun _ => iprop(Φ₁ c ∗ (dats m ρ 0 c).owesAt () step.succ
          ∗ owns (c : Thread nD τ) (Memref.whole cc0_stg0_0) fullShare (operand m ρ c)
          ∗ owns (c : Thread nD τ) (Memref.whole cc0_stg1_0) fullShare (outAt (operand m ρ) c))) := by
  have hw (K : Dev nD × Fin 25 → ℕ) : iprop(known (operand m ρ) K ∗ levAts L lv) ⊢ world (F := F) (operand m ρ) K := .rfl
  have hr : iprop(bigSep Finset.univ (fun j => atPos ER (recvCell c j) 0 ∅ 0) ∗ bigSep Finset.univ (fun j => cred (tallyAt (recvCell c j) () N)))
      ⊢ bigSep Finset.univ (fun j => recvPos (F := F) c j) := by
    unfold recvPos; rw [bigSep_sep']
  have ho : (dats m ρ 0 c).owesAt () step.castSucc ⊢ owing (F := F) c (O₀ c) := by
    unfold Dat.owesAt Pipeline.owesWithin owing
    iintro ⟨%W, %hW, H⟩
    iexists W; iexact H
  have ho' : owing (F := F) c 0 ⊢ (dats m ρ 0 c).owesAt () step.succ := by
    unfold Dat.owesAt Pipeline.owesWithin owing
    iintro ⟨%W, H⟩
    iexists W
    isplitr; · ipureintro; exact fun _ _ => Or.inl trivial
    iexact H
  unfold Φ₀ Φ₁ start opened linear
  iintro ⟨⟨⟨⟨%K, HK, HR, Hp⟩, ⟨Hb, Hc⟩, Hl⟩, Hs⟩, Ho, Hx, Hv⟩
  ihave HW := (hw K) $$ [HK Hl]
  · iframe
  ihave Hp := hr $$ [Hp Hc]
  · iframe
  ihave Ho := ho $$ Ho
  ihave Hm := (memPre_of c (operand m ρ) v) $$ [Hx Hv Hs]
  · iframe
  iapply (run_body (operand m ρ) K c)
  iframe
  iintro ⟨Ho, Hm, Hz⟩
  ihave Ho := ho' $$ Ho
  ihave Hm := (of_memPost c (operand m ρ)) $$ Hm
  icases Hm with ⟨Hx, Hv, Hs⟩
  iframe

set_option maxRecDepth 4000 in
/-- The body does what the launch asks of it. -/
theorem body_obligation (c : Dev nD) : BodyObligation (dats (F := F) m ρ 0 c) (defs₀ (F := F)) 𝒱₀ () Set.univ := fun t => by
  rw [step_eq t, bigSep_W0, bigSep_W0]
  show iprop(Φ₀ m ρ c ∗ (dats m ρ 0 c).owesAt () step.castSucc
      ∗ (∃ d, owns (c : Thread nD τ) (Memref.whole cc0_stg0_0) fullShare ((dats m ρ 0 c).before (0 : Fin 2) step d))
      ∗ (∃ d, owns (c : Thread nD τ) (Memref.whole cc0_stg1_0) fullShare ((dats m ρ 0 c).before (1 : Fin 2) step d)))
    ⊢ run c _ (fun _ => iprop(Φ₁ c ∗ (dats m ρ 0 c).owesAt () step.succ
      ∗ owns (c : Thread nD τ) (Memref.whole cc0_stg0_0) fullShare (operand m ρ c)
      ∗ owns (c : Thread nD τ) (Memref.whole cc0_stg1_0) fullShare (outAt (operand m ρ) c)))
  have hb (d) : (dats m ρ 0 c).before (0 : Fin 2) step d = operand m ρ c := by
    unfold Dat.before; rw [if_pos fetch_0]; rfl
  simp only [hb]
  iintro ⟨HΦ, Ho, ⟨%d, Hx⟩, ⟨%d', Hv⟩⟩
  iapply (run_step m ρ c ((dats m ρ 0 c).before (1 : Fin 2) step d'))
  iframe

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened (operand m ρ) c)
      ⊢ |={Set.univ}=> iprop(start m ρ c ∗ emp) := by
  iintro ⟨-, Hlev, Hcr, -, HG⟩
  ihave Hc := (creds (F := F) c) $$ Hcr
  imodintro
  unfold start
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  show _ ⊢ Φ₀ m ρ c
  unfold Φ₀
  iintro ⟨Hs, -, Hr⟩
  ihave Hr := (scratch_of (F := F) c) $$ Hr
  iframe

theorem phi1_exit (c : Dev nD) :
    (dats m ρ 0 c).Φ (Fin.last cfg0.N) ⊢ iprop(unscopedSems0 c ∗ Pipeline.ownSems0 osem c ∗ Pipeline.scopedRest cfg0.spec c) := by
  show Φ₁ c ⊢ _
  rw [ownSems0_eq, unscopedSems0_eq]
  unfold Φ₁ zeros
  rw [bigSep_sep']
  iintro ⟨Hs, Hb, Hz⟩
  ihave Hs := (of_scratch (F := F) c) $$ Hs
  iframe

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds in the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, every fair execution on the four devices ends, with each array at its final contents and every semaphore
    at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt (operand m ρ)) (G' := opened (operand m ρ)) (u₀ := u₀)
    (hu₀ := by
      unfold u₀
      iintro Hu
      ihave H := (ownU_pair _ _) $$ Hu
      icases H with ⟨HP, HX⟩
      imod (fund_protocol (operand m ρ)) $$ HX with HG
      imodintro
      isplitl [HP] <;> iassumption)
    (hglob := open_all (operand m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array holds in the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce
-- ==== Proof.Value.lean ====
/-
  The value: over the extended reals each row of the result is the sum of the four devices' rows, in whatever order the exchanges add
  them, and so is each row of the reference's.
-/
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.Pointwise
public import Idealize.ShloMosaic.PureOps.Ideal

@[expose] public section

noncomputable section

namespace Cert.AllReduce

open Cert.KernelIdeal Cert.KernelIdeal.Gen
open Idealize.ShloMosaic
open Idealize.ShloMosaic.TcCoe

/-! ## The arrays of the run -/

section Arrays
variable {F : FTy → Type} [FloatOps F]
variable (m : (ℓ : Loc nD τ sig) → Buf (Elt F) ℓ) (ρ : Dev nD → PrngReg) (c : Dev nD)

/-- The kernel's one block of the operand is the operand, -/
theorem operand_eq : operand m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- and of the result the result: the array ends at what the body computed. -/
theorem finalA_o : finalA m ρ c (1 : Fin 2) = outAt (operand m ρ) c := by
  have hz : (fun a => (win0_1.index (0 : Fin 1)) a * main_v1.ty.shape.size a) = fun _ => 0 := funext fun a => by fin_cases a <;> decide
  have hr : (win0_1.blk (0 : Fin 1)).view.read (Elt F) (finalA m ρ c (1 : Fin 2)) = finalA m ρ c (1 : Fin 2) :=
    Memref.read_access_unit_zero (Elt F) main_v1 hz (fun a => by fin_cases a <;> decide) _
  rw [← hr]
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Arrays

/-! ## The sums -/

/-- Everything there is to add, from any device: itself, its partners, and their partner. -/
theorem sum_devs (c : Dev nD) (f : Dev nD → EReal) : (f c + f (nx c)) + (f (ny c) + f (nx (ny c))) = ∑ d, f d := by
  have h : ∑ d, f d = f 0 + f 1 + f 2 + f 3 := Fin.sum_univ_four f
  rw [h]
  have hc : c = 0 ∨ c = 1 ∨ c = 2 ∨ c = 3 := by revert c; decide
  rcases hc with rfl | rfl | rfl | rfl
  · show (f 0 + f 3) + (f 1 + f 2) = _; ac_rfl
  · show (f 1 + f 2) + (f 0 + f 3) = _; ac_rfl
  · show (f 2 + f 1) + (f 3 + f 0) = _; ac_rfl
  · show (f 3 + f 0) + (f 2 + f 1) = _; ac_rfl

theorem aKeep_ny (c : Dev nD) (k : Fin 2) : aKeep (ny c) k = aKeep c k := by revert c k; decide
theorem bKeep_nx (c : Dev nD) (k : Fin 2) : bKeep (nx c) k = bKeep c k := by revert c k; decide

variable (X : Dev nD → Vec Ideal S1024x512 .f32)

/-- Block `b` of all four arrays, added. -/
def total (b : Fin 8) : Val128 Ideal := fun p => (∑ d, (xv X d b p : EReal) : EReal)

theorem accA_apply (c : Dev nD) (k : Fin 2) (p : S128x512.Idx) :
    accA X c k p = (xv X c (aKeep c k) p + xv X (nx c) (aKeep c k) p : EReal) := by
  simp only [accA, k0_pay1, shapeCast_self]; rfl
theorem accB_apply (c : Dev nD) (k : Fin 2) (p : S128x512.Idx) :
    accB X c k p = (xv X c (bKeep c k) p + xv X (ny c) (bKeep c k) p : EReal) := by
  simp only [accB, k0_pay2, shapeCast_self]; rfl

theorem outA_eq (c : Dev nD) (k : Fin 2) : outA X c k = total X (aKeep c k) := by
  funext p
  show (accA X c k p + accA X (ny c) k p : EReal) = _
  rw [accA_apply, accA_apply, aKeep_ny]
  exact sum_devs c fun d => xv X d (aKeep c k) p
theorem outB_eq (c : Dev nD) (k : Fin 2) : outB X c k = total X (bKeep c k) := by
  funext p
  show (accB X c k p + accB X (nx c) k p : EReal) = _
  rw [accB_apply, accB_apply, bKeep_nx, ny_nx]
  refine Eq.trans ?_ (sum_devs c fun d => xv X d (bKeep c k) p)
  ac_rfl

/-- Every block of every device's result is the sum of that block over the devices. -/
theorem oval_eq (c : Dev nD) (b : Fin 8) : oval X c b = total X b := by
  obtain ⟨h0, h1, h2, h3, h4, h5, h6, h7⟩ := oval_blocks X c
  have hb : b ∈ blocks c := List.mem_toFinset.mp (blocks_all c ▸ Finset.mem_univ b)
  simp only [blocks, List.mem_cons, List.not_mem_nil, or_false] at hb
  rcases hb with rfl | rfl | rfl | rfl | rfl | rfl | rfl | rfl
  · rw [h0, outA_eq]
  · rw [h1, outA_eq]
  · rw [h2, outB_eq]
  · rw [h3, outB_eq]
  · rw [h4, outA_eq]
  · rw [h5, outA_eq]
  · rw [h6, outB_eq]
  · rw [h7, outB_eq]

theorem emb_blockOf (i : S1024x512.Idx) : (rows (blockOf i)).emb (placeOf i) = i := by
  have h : ∃ b j, (rows b).emb j = i := by
    obtain ⟨b, -, hb⟩ := Finset.mem_biUnion.mp (rows_cover.symm ▸ Finset.mem_univ i)
    rw [← Rect.map_emb_univ] at hb
    obtain ⟨j, -, hj⟩ := Finset.mem_map.mp hb
    exact ⟨b, j, hj⟩
  obtain ⟨b, j, rfl⟩ := h
  rw [blockOf_emb, placeOf_emb]

/-- Each element of a device's result is the sum of the four devices' elements there. -/
theorem outAt_apply (c : Dev nD) (i : S1024x512.Idx) : outAt X c i = (∑ d, (X d i : EReal) : EReal) := by
  show oval X c (blockOf i) (placeOf i) = _
  rw [oval_eq]
  show (∑ d, (X d ((rows (blockOf i)).emb (placeOf i)) : EReal) : EReal) = _
  rw [emb_blockOf]

/-! ## The reference -/

/-- Device `d`'s 1024 rows of the whole array. -/
abbrev part (A : Vec Ideal Cert.ReferenceIdeal.S4096x512 .f32) (d : Dev nD) : Vec Ideal S1024x512 .f32 :=
  Layout.block ⟨2, ![1024, 512]⟩ ⟨2, ![4096, 512]⟩ 0 4 d A

/-- What the reference computes of the whole array. -/
def refOut (A : Vec Ideal Cert.ReferenceIdeal.S4096x512 .f32) : Vec Ideal S1024x512 .f32 :=
  Host.reduceAdd (F := Ideal) (shapeCast _ A Cert.ReferenceIdeal.Gen.facts.shapeCasts_S4096x512_S4x1024x512)
    (constant Cert.ReferenceIdeal.S_ .f32 0x00000000#32) Cert.ReferenceIdeal.Gen.facts.reducesTo_S4x1024x512_S1024x512_d0
    Cert.ReferenceIdeal.Gen.facts.h_S_

/-- Each element is the sum over the four blocks of 1024 rows. -/
theorem refOut_apply (A : Vec Ideal Cert.ReferenceIdeal.S4096x512 .f32) (i : S1024x512.Idx) :
    refOut A i = (∑ d : Dev nD, (part A d i : EReal) : EReal) := by
  unfold refOut
  rw [Host.reduceAdd_apply, Ideal.hostReduceAdd_def]
  refine (Ideal.hostReduceAdd_r3_a0 (n0 := 4) (n1 := 1024) (n2 := 512) _ _ _ i).trans ?_
  rw [show (constant Cert.ReferenceIdeal.S_ .f32 0x00000000#32 (Shape.Idx.first Cert.ReferenceIdeal.Gen.facts.h_S_) : Ideal .f32) = (0 : EReal)
    from Ideal.ofBits_zero .f32, zero_add]
  refine Finset.sum_congr rfl fun d _ => ?_
  refine shapeCast_apply A _ _ _ ?_
  rw [Shape.rowMajor_val_two, Shape.rowMajor_val_three]
  simp [Layout.Tiles.idx_val]

/-- The kernel's result is the reference's. -/
theorem outAt_refOut (A : Vec Ideal Cert.ReferenceIdeal.S4096x512 .f32)
    (h : ∀ d : Dev nD, X d = part A d) (c : Dev nD) : outAt X c = refOut A := by
  funext i
  rw [outAt_apply, refOut_apply]
  simp only [h]

end Cert.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.AllReduce

/-- Every run ends with the argument as it was and every semaphore at zero, over any float values. -/
theorem kernel_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run _ _ _).mono (fun _ h => ⟨fun c => (h.1 c (0 : Fin 2)).trans (finalA_x m ρ c), h.2⟩) (run_main m ρ)

section
attribute [local instance] Cert.Kernel.Gen.facts Cert.KernelIdeal.Gen.facts

/-- `Kernel` and `KernelIdeal` are one program: their body tables are equal, label by label. -/
theorem defs₀_eq {F : FTy → Type} [FloatOps F] : Cert.Kernel.defs₀ (F := F) = Cert.KernelIdeal.defs₀ (F := F) := by
  funext p ℓ a
  rcases p with _ | _ | _
  · rcases ℓ with ⟨_ | n, h⟩
    · rcases a with ⟨t, s⟩; rfl
    · exact absurd h (by omega)
  · rfl
  · rfl

/-- So are the tables with the pipeline's regions adjoined. -/
theorem defs_eq {F : FTy → Type} [FloatOps F] : Cert.Kernel.defs (F := F) = Cert.KernelIdeal.defs (F := F) :=
  congrArg (Idealize.ShloMosaic.Pipeline.defs Cert.KernelIdeal.pcfgs) defs₀_eq

end

/-- `kernel_frame` read at machine floats, of the program as first printed. -/
theorem frame_P : Cert.quiescent_Kernel (hKernel := Cert.Kernel.Gen.facts) := fun m ρ _ => by
  have h := kernel_frame (F := Bits) m ρ
  rw [← defs_eq] at h
  exact h

/-- The same at the extended reals. -/
theorem frame_PI : Cert.quiescent_KernelIdeal (hKernelIdeal := Cert.KernelIdeal.Gen.facts) := fun m ρ _ => kernel_frame (F := Ideal) m ρ

/-- The reference's run ends with the argument as it was; it has no semaphore. -/
theorem frame_RI : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- Every device ends with the reference's result. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨refOut (m' (((0 : Dev Cert.ReferenceIdeal.nD).tc : Thread Cert.ReferenceIdeal.nD Cert.ReferenceIdeal.τ).loc Cert.ReferenceIdeal.main_arg0)),
    (θ_run _ _ _).mono (fun _ h c => ⟨(h.1 c (1 : Fin 2)).trans ((finalA_o m ρ c).trans
        (outAt_refOut (operand m ρ) _ (fun d => (operand_eq m ρ d).trans (hm d)) c)),
      (h.1 c (0 : Fin 2)).trans (finalA_x m ρ c)⟩) (run_main (F := Ideal) m ρ),
    (θ_run _ _ _).mono (fun _ h => h 0) (Cert.ReferenceIdeal.Value.run (F := Ideal) m' ρ')⟩

/-- The five claims. -/
theorem claim : Cert.Claim :=
  ⟨Cert.Kernel.Gen.facts, Cert.KernelIdeal.Gen.facts, Cert.ReferenceIdeal.Gen.facts, frame_P, frame_PI, frame_RI, trivial, algebraic⟩

end Cert.Proof

end
